-- ==== Defs.lean ====
def Pre_Kernel [hPre_atoms_in_range : Cert.Pre_atoms_in_range.Facts] (m : (ℓ : Loc Cert.Kernel.nD Cert.Kernel.τ Cert.Kernel.sig) → Buf (Elt Bits) ℓ) : Prop :=
  ∀ c : Dev Cert.Kernel.nD,
    (Cert.Pre_atoms_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_atoms_in_range : Cert.Pre_atoms_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_atoms_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_atoms_in_range [hPre_atoms_in_range : Cert.Pre_atoms_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_atoms_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_atoms_in_range : Cert.Pre_atoms_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_atoms_in_range : Cert.Pre_atoms_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_atoms_in_range [hReferenceIdeal : Cert.ReferenceIdeal.Facts] [hPre_atoms_in_range : Cert.Pre_atoms_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_atoms_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_atoms_in_range : Cert.Pre_atoms_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_atoms_in_range : Cert.Pre_atoms_in_range.Facts),
    quiescent_Kernel (hKernel := hKernel) (hPre_atoms_in_range := hPre_atoms_in_range)
    ∧ quiescent_KernelIdeal (hKernelIdeal := hKernelIdeal) (hPre_atoms_in_range := hPre_atoms_in_range)
    ∧ quiescent_ReferenceIdeal (hReferenceIdeal := hReferenceIdeal)
    ∧ quiescent_ReferenceIdeal_pre_atoms_in_range (hReferenceIdeal := hReferenceIdeal) (hPre_atoms_in_range := hPre_atoms_in_range)
    ∧ preserves_Kernel_KernelIdeal
    ∧ algebraic_KernelIdeal_ReferenceIdeal (hKernelIdeal := hKernelIdeal) (hReferenceIdeal := hReferenceIdeal) (hPre_atoms_in_range := hPre_atoms_in_range)
-- ==== Pre_atoms_in_range.lean ====
abbrev S32x2048 : Shape := ⟨2, ![32, 2048]⟩
abbrev S16x2048x8x3 : Shape := ⟨4, ![16, 2048, 8, 3]⟩
abbrev S_ : Shape := ⟨0, ![]⟩

class Facts : Prop where
  bcast_S_S16x2048x8x3 : S_.BroadcastsInDim S16x2048x8x3 (![] : Fin 0 → Fin S16x2048x8x3.rank)
  reducesTo_S16x2048x8x3_S_d0_1_2_3 : S16x2048x8x3.ReducesTo [0, 1, 2, 3] S_
  h_S_ : 0 < S_.numel

variable [Facts]

def fn {F : FTy → Type} [FloatOps F] (main_arg0 : FVec F S32x2048 .f32) (main_arg1 : IVec S16x2048x8x3 32) : IVec S_ 1 :=
  let main_c : IVec S_ 32 := constantI S_ 32 0#32
  let main_v0 : IVec S16x2048x8x3 32 := broadcastInDim S16x2048x8x3 ![] bcast_S_S16x2048x8x3 main_c
  let main_v1 : IVec S16x2048x8x3 1 := cmpi .sge main_arg1 main_v0
  let main_c_0 : IVec S_ 32 := constantI S_ 32 2048#32
  let main_v2 : IVec S16x2048x8x3 32 := broadcastInDim S16x2048x8x3 ![] bcast_S_S16x2048x8x3 main_c_0
  let main_v3 : IVec S16x2048x8x3 1 := cmpi .slt main_arg1 main_v2
  let main_v4 : IVec S16x2048x8x3 1 := andi main_v1 main_v3
  let main_c_1 : IVec S_ 1 := constantI S_ 1 1#1
  let main_v5 : IVec S_ 1 := (fun x v => Host.reduce IntOp.andi x v reducesTo_S16x2048x8x3_S_d0_1_2_3 h_S_) main_v4 main_c_1
  main_v5
-- ==== Kernel.lean ====
abbrev S32x2048 : Shape := ⟨2, ![32, 2048]⟩
abbrev S16x2048x8x3 : Shape := ⟨4, ![16, 2048, 8, 3]⟩
abbrev S16x8x3x2048 : Shape := ⟨4, ![16, 8, 3, 2048]⟩
abbrev S16x8x3x32x64 : Shape := ⟨5, ![16, 8, 3, 32, 64]⟩
abbrev S32x16x8x3x64 : Shape := ⟨5, ![32, 16, 8, 3, 64]⟩
abbrev S32x24576 : Shape := ⟨2, ![32, 24576]⟩
abbrev S65536 : Shape := ⟨1, ![65536]⟩
abbrev S32x32768 : Shape := ⟨2, ![32, 32768]⟩
abbrev S24576 : Shape := ⟨1, ![24576]⟩
abbrev S32768 : Shape := ⟨1, ![32768]⟩
abbrev S_ : Shape := ⟨0, ![]⟩
abbrev S1x24576 : Shape := ⟨2, ![1, 24576]⟩
abbrev S16 : Shape := ⟨1, ![16]⟩
abbrev S1x32768 : Shape := ⟨2, ![1, 32768]⟩
abbrev S32x16x32x64 : Shape := ⟨4, ![32, 16, 32, 64]⟩
abbrev S16x32x32x64 : Shape := ⟨4, ![16, 32, 32, 64]⟩
abbrev S16x32x2048 : Shape := ⟨3, ![16, 32, 2048]⟩

abbrev nBuf : Table → Nat
  | .hbm => 11
  | .local .scVector .vmem => 3
  | _ => 0

abbrev bufTy : (tb : Table) → Fin (nBuf tb) → BufTy
  | .hbm, ⟨0, _⟩ => ⟨S32x2048, .f32⟩
  | .hbm, ⟨1, _⟩ => ⟨S16x2048x8x3, .i32⟩
  | .hbm, ⟨2, _⟩ => ⟨S16x8x3x2048, .i32⟩
  | .hbm, ⟨3, _⟩ => ⟨S16x8x3x32x64, .i32⟩
  | .hbm, ⟨4, _⟩ => ⟨S32x16x8x3x64, .i32⟩
  | .hbm, ⟨5, _⟩ => ⟨S32x24576, .i32⟩
  | .hbm, ⟨6, _⟩ => ⟨S65536, .f32⟩
  | .hbm, ⟨7, _⟩ => ⟨S32x32768, .f32⟩
  | .hbm, ⟨8, _⟩ => ⟨S32x16x32x64, .f32⟩
  | .hbm, ⟨9, _⟩ => ⟨S16x32x32x64, .f32⟩
  | .hbm, ⟨10, _⟩ => ⟨S16x32x2048, .f32⟩
  | .local .scVector .vmem, ⟨0, _⟩ => ⟨S65536, .f32⟩
  | .local .scVector .vmem, ⟨1, _⟩ => ⟨S24576, .i32⟩
  | .local .scVector .vmem, ⟨2, _⟩ => ⟨S32768, .f32⟩
  | _, _ => ⟨S32x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v4_scv : Ref sig .scVector := ⟨.hbm, 6, rfl⟩
abbrev main_v3_scv : Ref sig .scVector := ⟨.hbm, 5, rfl⟩
abbrev main_v5_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r1 : BitVec 32 := 0#32
  ![v1.toNat, 0]
@[reducible] def k0_t1_loop : Scf.Loop 32 :=
  let c0_i32_0 : BitVec 32 := 0#32
  let c64_i32 : BitVec 32 := 64#32
  let v2 : BitVec 32 := Scalar.addi c0_i32_0 c64_i32
  let c1_i32 : BitVec 32 := 1#32
  ⟨c0_i32_0, v2, c1_i32⟩
def k0_off2 (k0_t1 : Fin k0_t1_loop.trips) (c0_i32_9 : BitVec 32) : Fin 1 → Nat :=
  let c0_i32_0 : BitVec 32 := 0#32
  let c1_i32 : BitVec 32 := 1#32
  let arg8 : BitVec 32 := Scf.iv c0_i32_0 c1_i32 k0_t1
  let c0_i32_2 : BitVec 32 := 0#32
  let v5 : BitVec 1 := Scalar.cmpi .sgt arg8 c0_i32_2
  let v6 : BitVec 32 := Scalar.extui v5
  let c0_i32_3 : BitVec 32 := 0#32
  let v7 : BitVec 1 := Scalar.cmpi .slt arg8 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg8 c4_i32
  let c0_i32_6 : BitVec 32 := 0#32
  let v17 : BitVec 1 := Scalar.cmpi .ne v16 c0_i32_6
  let v18 : BitVec 1 := Scalar.andi v15 v17
  let v4 : BitVec 32 := Scalar.divsi arg8 c4_i32
  let c1_i32_7 : BitVec 32 := 1#32
  let v19 : BitVec 32 := Scalar.subi v4 c1_i32_7
  let v20 : BitVec 32 := Scalar.select v18 v19 v4
  let c1536_i32 : BitVec 32 := 1536#32
  let v23 : BitVec 32 := Scalar.muli v20 c1536_i32
  let c4_i32_8 : BitVec 32 := 4#32
  let v21 : BitVec 32 := Scalar.muli v20 c4_i32_8
  let v22 : BitVec 32 := Scalar.subi arg8 v21
  let c16_i32 : BitVec 32 := 16#32
  let v24 : BitVec 32 := Scalar.muli v22 c16_i32
  let v25 : BitVec 32 := Scalar.addi v23 v24
  let v26 : BitVec 32 := Scalar.addi v25 c0_i32_9
  let v27 : Index := Scalar.indexCast v26
  ![v27.toNat]
@[reducible] def k0_t2_loop : Scf.Loop 32 :=
  let c0_i32_13 : BitVec 32 := 0#32
  let c32_i32 : BitVec 32 := 32#32
  let v101 : BitVec 32 := Scalar.addi c0_i32_13 c32_i32
  let c1_i32_14 : BitVec 32 := 1#32
  ⟨c0_i32_13, v101, c1_i32_14⟩

def k0_chk1 (v105 : IVec S16 32) : Prop :=
  (∀ a x, ((![v105] : Fin 1 → IVec S16 32) a x).toNat < S65536.size a)
theorem k0_idx1_inb : ∀ (v105 : IVec S16 32) (k0_hw1 : k0_chk1 v105), ∀ a x, ((![v105] : Fin 1 → IVec S16 32) a x).toNat < S65536.size a := fun v105 k0_hw1 => k0_hw1

def k0_chk2 (v108 : IVec S16 32) : Prop :=
  (∀ a x, ((![v108] : Fin 1 → IVec S16 32) a x).toNat < S65536.size a)
theorem k0_idx2_inb : ∀ (v108 : IVec S16 32) (k0_hw2 : k0_chk2 v108), ∀ a x, ((![v108] : Fin 1 → IVec S16 32) a x).toNat < S65536.size a := fun v108 k0_hw2 => k0_hw2

def k0_chk3 (v112 : IVec S16 32) : Prop :=
  (∀ a x, ((![v112] : Fin 1 → IVec S16 32) a x).toNat < S65536.size a)
theorem k0_idx3_inb : ∀ (v112 : IVec S16 32) (k0_hw3 : k0_chk3 v112), ∀ a x, ((![v112] : Fin 1 → IVec S16 32) a x).toNat < S65536.size a := fun v112 k0_hw3 => k0_hw3

def k0_chk4 (v116 : IVec S16 32) : Prop :=
  (∀ a x, ((![v116] : Fin 1 → IVec S16 32) a x).toNat < S65536.size a)
theorem k0_idx4_inb : ∀ (v116 : IVec S16 32) (k0_hw4 : k0_chk4 v116), ∀ a x, ((![v116] : Fin 1 → IVec S16 32) a x).toNat < S65536.size a := fun v116 k0_hw4 => k0_hw4

def k0_chk5 (v119 : IVec S16 32) : Prop :=
  (∀ a x, ((![v119] : Fin 1 → IVec S16 32) a x).toNat < S65536.size a)
theorem k0_idx5_inb : ∀ (v119 : IVec S16 32) (k0_hw5 : k0_chk5 v119), ∀ a x, ((![v119] : Fin 1 → IVec S16 32) a x).toNat < S65536.size a := fun v119 k0_hw5 => k0_hw5

def k0_chk6 (v123 : IVec S16 32) : Prop :=
  (∀ a x, ((![v123] : Fin 1 → IVec S16 32) a x).toNat < S65536.size a)
theorem k0_idx6_inb : ∀ (v123 : IVec S16 32) (k0_hw6 : k0_chk6 v123), ∀ a x, ((![v123] : Fin 1 → IVec S16 32) a x).toNat < S65536.size a := fun v123 k0_hw6 => k0_hw6

def k0_chk7 (v128 : IVec S16 32) : Prop :=
  (∀ a x, ((![v128] : Fin 1 → IVec S16 32) a x).toNat < S65536.size a)
theorem k0_idx7_inb : ∀ (v128 : IVec S16 32) (k0_hw7 : k0_chk7 v128), ∀ a x, ((![v128] : Fin 1 → IVec S16 32) a x).toNat < S65536.size a := fun v128 k0_hw7 => k0_hw7

def k0_chk8 (v131 : IVec S16 32) : Prop :=
  (∀ a x, ((![v131] : Fin 1 → IVec S16 32) a x).toNat < S65536.size a)
theorem k0_idx8_inb : ∀ (v131 : IVec S16 32) (k0_hw8 : k0_chk8 v131), ∀ a x, ((![v131] : Fin 1 → IVec S16 32) a x).toNat < S65536.size a := fun v131 k0_hw8 => k0_hw8

def k0_chk9 (v135 : IVec S16 32) : Prop :=
  (∀ a x, ((![v135] : Fin 1 → IVec S16 32) a x).toNat < S65536.size a)
theorem k0_idx9_inb : ∀ (v135 : IVec S16 32) (k0_hw9 : k0_chk9 v135), ∀ a x, ((![v135] : Fin 1 → IVec S16 32) a x).toNat < S65536.size a := fun v135 k0_hw9 => k0_hw9

def k0_chk10 (v140 : IVec S16 32) : Prop :=
  (∀ a x, ((![v140] : Fin 1 → IVec S16 32) a x).toNat < S65536.size a)
theorem k0_idx10_inb : ∀ (v140 : IVec S16 32) (k0_hw10 : k0_chk10 v140), ∀ a x, ((![v140] : Fin 1 → IVec S16 32) a x).toNat < S65536.size a := fun v140 k0_hw10 => k0_hw10

def k0_chk11 (v143 : IVec S16 32) : Prop :=
  (∀ a x, ((![v143] : Fin 1 → IVec S16 32) a x).toNat < S65536.size a)
theorem k0_idx11_inb : ∀ (v143 : IVec S16 32) (k0_hw11 : k0_chk11 v143), ∀ a x, ((![v143] : Fin 1 → IVec S16 32) a x).toNat < S65536.size a := fun v143 k0_hw11 => k0_hw11

def k0_chk12 (v147 : IVec S16 32) : Prop :=
  (∀ a x, ((![v147] : Fin 1 → IVec S16 32) a x).toNat < S65536.size a)
theorem k0_idx12_inb : ∀ (v147 : IVec S16 32) (k0_hw12 : k0_chk12 v147), ∀ a x, ((![v147] : Fin 1 → IVec S16 32) a x).toNat < S65536.size a := fun v147 k0_hw12 => k0_hw12

def k0_chk13 (v152 : IVec S16 32) : Prop :=
  (∀ a x, ((![v152] : Fin 1 → IVec S16 32) a x).toNat < S65536.size a)
theorem k0_idx13_inb : ∀ (v152 : IVec S16 32) (k0_hw13 : k0_chk13 v152), ∀ a x, ((![v152] : Fin 1 → IVec S16 32) a x).toNat < S65536.size a := fun v152 k0_hw13 => k0_hw13

def k0_chk14 (v155 : IVec S16 32) : Prop :=
  (∀ a x, ((![v155] : Fin 1 → IVec S16 32) a x).toNat < S65536.size a)
theorem k0_idx14_inb : ∀ (v155 : IVec S16 32) (k0_hw14 : k0_chk14 v155), ∀ a x, ((![v155] : Fin 1 → IVec S16 32) a x).toNat < S65536.size a := fun v155 k0_hw14 => k0_hw14

def k0_chk15 (v159 : IVec S16 32) : Prop :=
  (∀ a x, ((![v159] : Fin 1 → IVec S16 32) a x).toNat < S65536.size a)
theorem k0_idx15_inb : ∀ (v159 : IVec S16 32) (k0_hw15 : k0_chk15 v159), ∀ a x, ((![v159] : Fin 1 → IVec S16 32) a x).toNat < S65536.size a := fun v159 k0_hw15 => k0_hw15

def k0_chk16 (v164 : IVec S16 32) : Prop :=
  (∀ a x, ((![v164] : Fin 1 → IVec S16 32) a x).toNat < S65536.size a)
theorem k0_idx16_inb : ∀ (v164 : IVec S16 32) (k0_hw16 : k0_chk16 v164), ∀ a x, ((![v164] : Fin 1 → IVec S16 32) a x).toNat < S65536.size a := fun v164 k0_hw16 => k0_hw16

def k0_chk17 (v167 : IVec S16 32) : Prop :=
  (∀ a x, ((![v167] : Fin 1 → IVec S16 32) a x).toNat < S65536.size a)
theorem k0_idx17_inb : ∀ (v167 : IVec S16 32) (k0_hw17 : k0_chk17 v167), ∀ a x, ((![v167] : Fin 1 → IVec S16 32) a x).toNat < S65536.size a := fun v167 k0_hw17 => k0_hw17

def k0_chk18 (v171 : IVec S16 32) : Prop :=
  (∀ a x, ((![v171] : Fin 1 → IVec S16 32) a x).toNat < S65536.size a)
theorem k0_idx18_inb : ∀ (v171 : IVec S16 32) (k0_hw18 : k0_chk18 v171), ∀ a x, ((![v171] : Fin 1 → IVec S16 32) a x).toNat < S65536.size a := fun v171 k0_hw18 => k0_hw18

def k0_chk19 (v176 : IVec S16 32) : Prop :=
  (∀ a x, ((![v176] : Fin 1 → IVec S16 32) a x).toNat < S65536.size a)
theorem k0_idx19_inb : ∀ (v176 : IVec S16 32) (k0_hw19 : k0_chk19 v176), ∀ a x, ((![v176] : Fin 1 → IVec S16 32) a x).toNat < S65536.size a := fun v176 k0_hw19 => k0_hw19

def k0_chk20 (v179 : IVec S16 32) : Prop :=
  (∀ a x, ((![v179] : Fin 1 → IVec S16 32) a x).toNat < S65536.size a)
theorem k0_idx20_inb : ∀ (v179 : IVec S16 32) (k0_hw20 : k0_chk20 v179), ∀ a x, ((![v179] : Fin 1 → IVec S16 32) a x).toNat < S65536.size a := fun v179 k0_hw20 => k0_hw20

def k0_chk21 (v183 : IVec S16 32) : Prop :=
  (∀ a x, ((![v183] : Fin 1 → IVec S16 32) a x).toNat < S65536.size a)
theorem k0_idx21_inb : ∀ (v183 : IVec S16 32) (k0_hw21 : k0_chk21 v183), ∀ a x, ((![v183] : Fin 1 → IVec S16 32) a x).toNat < S65536.size a := fun v183 k0_hw21 => k0_hw21

def k0_chk22 (v188 : IVec S16 32) : Prop :=
  (∀ a x, ((![v188] : Fin 1 → IVec S16 32) a x).toNat < S65536.size a)
theorem k0_idx22_inb : ∀ (v188 : IVec S16 32) (k0_hw22 : k0_chk22 v188), ∀ a x, ((![v188] : Fin 1 → IVec S16 32) a x).toNat < S65536.size a := fun v188 k0_hw22 => k0_hw22

def k0_chk23 (v191 : IVec S16 32) : Prop :=
  (∀ a x, ((![v191] : Fin 1 → IVec S16 32) a x).toNat < S65536.size a)
theorem k0_idx23_inb : ∀ (v191 : IVec S16 32) (k0_hw23 : k0_chk23 v191), ∀ a x, ((![v191] : Fin 1 → IVec S16 32) a x).toNat < S65536.size a := fun v191 k0_hw23 => k0_hw23

def k0_chk24 (v195 : IVec S16 32) : Prop :=
  (∀ a x, ((![v195] : Fin 1 → IVec S16 32) a x).toNat < S65536.size a)
theorem k0_idx24_inb : ∀ (v195 : IVec S16 32) (k0_hw24 : k0_chk24 v195), ∀ a x, ((![v195] : Fin 1 → IVec S16 32) a x).toNat < S65536.size a := fun v195 k0_hw24 => k0_hw24
def k0_off3 (k0_t1 : Fin k0_t1_loop.trips) (k0_t2 : Fin k0_t2_loop.trips) : Fin 1 → Nat :=
  let c0_i32_0 : BitVec 32 := 0#32
  let c1_i32 : BitVec 32 := 1#32
  let arg8 : BitVec 32 := Scf.iv c0_i32_0 c1_i32 k0_t1
  let c0_i32_2 : BitVec 32 := 0#32
  let v5 : BitVec 1 := Scalar.cmpi .sgt arg8 c0_i32_2
  let v6 : BitVec 32 := Scalar.extui v5
  let c0_i32_3 : BitVec 32 := 0#32
  let v7 : BitVec 1 := Scalar.cmpi .slt arg8 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg8 c4_i32
  let c0_i32_6 : BitVec 32 := 0#32
  let v17 : BitVec 1 := Scalar.cmpi .ne v16 c0_i32_6
  let v18 : BitVec 1 := Scalar.andi v15 v17
  let v4 : BitVec 32 := Scalar.divsi arg8 c4_i32
  let c1_i32_7 : BitVec 32 := 1#32
  let v19 : BitVec 32 := Scalar.subi v4 c1_i32_7
  let v20 : BitVec 32 := Scalar.select v18 v19 v4
  let c2048_i32 : BitVec 32 := 2048#32
  let v98 : BitVec 32 := Scalar.muli v20 c2048_i32
  let c4_i32_8 : BitVec 32 := 4#32
  let v21 : BitVec 32 := Scalar.muli v20 c4_i32_8
  let v22 : BitVec 32 := Scalar.subi arg8 v21
  let c16_i32_11 : BitVec 32 := 16#32
  let v99 : BitVec 32 := Scalar.muli v22 c16_i32_11
  let v100 : BitVec 32 := Scalar.addi v98 v99
  let c0_i32_13 : BitVec 32 := 0#32
  let c1_i32_14 : BitVec 32 := 1#32
  let arg10 : BitVec 32 := Scf.iv c0_i32_13 c1_i32_14 k0_t2
  let c64_i32_18 : BitVec 32 := 64#32
  let v199 : BitVec 32 := Scalar.muli arg10 c64_i32_18
  let v200 : BitVec 32 := Scalar.addi v100 v199
  let v201 : Index := Scalar.indexCast v200
  ![v201.toNat]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x2048 : Shape := ⟨2, ![32, 2048]⟩
abbrev S16x2048x8x3 : Shape := ⟨4, ![16, 2048, 8, 3]⟩
abbrev S_ : Shape := ⟨0, ![]⟩
abbrev S16x2048x8x3x1 : Shape := ⟨5, ![16, 2048, 8, 3, 1]⟩
abbrev S1 : Shape := ⟨1, ![1]⟩
abbrev S1x1x1x1x1 : Shape := ⟨5, ![1, 1, 1, 1, 1]⟩
abbrev S32x16x2048x8x3 : Shape := ⟨5, ![32, 16, 2048, 8, 3]⟩
abbrev S32x16x2048x8x1 : Shape := ⟨5, ![32, 16, 2048, 8, 1]⟩
abbrev S32x16x2048x8 : Shape := ⟨4, ![32, 16, 2048, 8]⟩
abbrev S32x16x2048 : Shape := ⟨3, ![32, 16, 2048]⟩
abbrev S16x32x2048 : Shape := ⟨3, ![16, 32, 2048]⟩

abbrev nBuf : Space → Nat
  | .hbm => 36
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S16x2048x8x3, .i32⟩
  | .hbm, ⟨2, _⟩ => ⟨S_, .i32⟩
  | .hbm, ⟨3, _⟩ => ⟨S16x2048x8x3, .i32⟩
  | .hbm, ⟨4, _⟩ => ⟨S16x2048x8x3, .i1⟩
  | .hbm, ⟨5, _⟩ => ⟨S_, .i32⟩
  | .hbm, ⟨6, _⟩ => ⟨S16x2048x8x3, .i32⟩
  | .hbm, ⟨7, _⟩ => ⟨S16x2048x8x3, .i32⟩
  | .hbm, ⟨8, _⟩ => ⟨S16x2048x8x3, .i32⟩
  | .hbm, ⟨9, _⟩ => ⟨S16x2048x8x3x1, .i32⟩
  | .hbm, ⟨10, _⟩ => ⟨S1, .i32⟩
  | .hbm, ⟨11, _⟩ => ⟨S_, .i32⟩
  | .hbm, ⟨12, _⟩ => ⟨S16x2048x8x3x1, .i32⟩
  | .hbm, ⟨13, _⟩ => ⟨S16x2048x8x3x1, .i1⟩
  | .hbm, ⟨14, _⟩ => ⟨S1x1x1x1x1, .i32⟩
  | .hbm, ⟨15, _⟩ => ⟨S16x2048x8x3x1, .i32⟩
  | .hbm, ⟨16, _⟩ => ⟨S16x2048x8x3x1, .i1⟩
  | .hbm, ⟨17, _⟩ => ⟨S16x2048x8x3x1, .i1⟩
  | .hbm, ⟨18, _⟩ => ⟨S_, .i1⟩
  | .hbm, ⟨19, _⟩ => ⟨S16x2048x8x3, .i1⟩
  | .hbm, ⟨20, _⟩ => ⟨S32x16x2048x8x3, .f32⟩
  | .hbm, ⟨21, _⟩ => ⟨S32x16x2048x8x3, .i1⟩
  | .hbm, ⟨22, _⟩ => ⟨S_, .f32⟩
  | .hbm, ⟨23, _⟩ => ⟨S32x16x2048x8x3, .f32⟩
  | .hbm, ⟨24, _⟩ => ⟨S32x16x2048x8x3, .f32⟩
  | .hbm, ⟨25, _⟩ => ⟨S32x16x2048x8x1, .f32⟩
  | .hbm, ⟨26, _⟩ => ⟨S32x16x2048x8, .f32⟩
  | .hbm, ⟨27, _⟩ => ⟨S32x16x2048x8x1, .f32⟩
  | .hbm, ⟨28, _⟩ => ⟨S32x16x2048x8, .f32⟩
  | .hbm, ⟨29, _⟩ => ⟨S32x16x2048x8, .f32⟩
  | .hbm, ⟨30, _⟩ => ⟨S32x16x2048x8x1, .f32⟩
  | .hbm, ⟨31, _⟩ => ⟨S32x16x2048x8, .f32⟩
  | .hbm, ⟨32, _⟩ => ⟨S32x16x2048x8, .f32⟩
  | .hbm, ⟨33, _⟩ => ⟨S_, .f32⟩
  | .hbm, ⟨34, _⟩ => ⟨S32x16x2048, .f32⟩
  | .hbm, ⟨35, _⟩ => ⟨S16x32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩

abbrev nD : Nat := 1
abbrev τ : Topo := Topo.v7x

variable {F : FTy → Type} [FloatOps F]
-- ==== Proof.Common.lean ====
/-
  What one vector subcore computes, as a function of the flat table it fetched and the row of atom indices it fetched:
  the value of every word of the row it writes back. Stated over plain functions, so that the kernel's two programs share it.
-/
module

public import Idealize.ShloMosaic.Lib.ValueIdxCore
public import Idealize.ShloMosaic.PureOps

@[expose] public section

noncomputable section

namespace Cert.Proof

open Idealize.ShloMosaic Idealize.ShloMosaic.ValueIdx

/-- Position `k` of a flat array of `n + 1` words (past the end it wraps round, which no proof reads). -/
def at1 (n k : ℕ) : (⟨1, ![n + 1]⟩ : Shape).Idx := ix1 (⟨k % (n + 1), Nat.mod_lt _ (Nat.succ_pos _)⟩ : Fin (n + 1))

/-- The position's coordinate, within the array. -/
theorem at1_val {n k : ℕ} (h : k < n + 1) (a : Fin 1) : (at1 n k a).val = k := by
  obtain rfl : a = 0 := Subsingleton.elim _ _
  exact Nat.mod_eq_of_lt h

/-- Every index of a flat array is the position of its coordinate. -/
theorem eq_at1 {n : ℕ} (j : (⟨1, ![n + 1]⟩ : Shape).Idx) : j = at1 n (j 0).val := by
  funext a
  obtain rfl : a = 0 := Subsingleton.elim _ _
  exact Fin.ext (at1_val (j 0).isLt 0).symm

variable {α : Type}

/-- The valuation that literal `r` of output word `n` reads: the atom named by the tile's index row, in the batch row of `n`. -/
def lit (x : (⟨1, ![65535 + 1]⟩ : Shape).Idx → α) (w : (⟨1, ![24575 + 1]⟩ : Shape).Idx → BitVec 32) (n r : ℕ) : α :=
  x (at1 65535 ((w (at1 24575 (1536 * (n / 2048) + n % 64 + 64 * r))).toNat + 2048 * (n / 64 % 32)))

variable {F : FTy → Type} [FloatOps F]

/-- The product of the three literals of substitution `s`. -/
def conj (x : (⟨1, ![65535 + 1]⟩ : Shape).Idx → F .f32) (w : (⟨1, ![24575 + 1]⟩ : Shape).Idx → BitVec 32) (n s : ℕ) : F .f32 :=
  FloatOps.mulf (FloatOps.mulf (lit x w n (3 * s)) (lit x w n (3 * s + 1))) (lit x w n (3 * s + 2))

/-- Output word `n` of the tile: the eight products added from the first to the last. -/
def tileOut (x : (⟨1, ![65535 + 1]⟩ : Shape).Idx → F .f32) (w : (⟨1, ![24575 + 1]⟩ : Shape).Idx → BitVec 32) (n : ℕ) : F .f32 :=
  FloatOps.addf (FloatOps.addf (FloatOps.addf (FloatOps.addf (FloatOps.addf (FloatOps.addf (FloatOps.addf
    (conj x w n 0) (conj x w n 1)) (conj x w n 2)) (conj x w n 3)) (conj x w n 4)) (conj x w n 5)) (conj x w n 6)) (conj x w n 7)

/-- The output rows of all the tiles, from the table and the index rows: tile `i`'s row is computed from index row `i`. -/
def outW (x : (⟨1, ![65535 + 1]⟩ : Shape).Idx → F .f32) (ws : (⟨2, ![32, 24575 + 1]⟩ : Shape).Idx → BitVec 32) :
    (⟨2, ![32, 32767 + 1]⟩ : Shape).Idx → F .f32 :=
  fun j => tileOut x (fun k => ws (ix2 (j 0) (k 0))) (j 1).val

/-- Output word `n` is written before trip `b` of the inner loop of trip `t` of the outer one. -/
def Before (t b n : ℕ) : Prop := 4 * (n / 2048) + n % 64 / 16 < t ∨ (4 * (n / 2048) + n % 64 / 16 = t ∧ n / 64 % 32 < b)

/-- The words written before that trip hold their values. -/
def Done (x : (⟨1, ![65535 + 1]⟩ : Shape).Idx → F .f32) (w : (⟨1, ![24575 + 1]⟩ : Shape).Idx → BitVec 32) (t b : ℕ)
    (f : (⟨1, ![32767 + 1]⟩ : Shape).Idx → F .f32) : Prop :=
  ∀ j, Before t b (j 0).val → f j = tileOut x w (j 0).val

/-- Before the first trip nothing is asked. -/
theorem done_zero (x : (⟨1, ![65535 + 1]⟩ : Shape).Idx → F .f32) (w : (⟨1, ![24575 + 1]⟩ : Shape).Idx → BitVec 32)
    (f : (⟨1, ![32767 + 1]⟩ : Shape).Idx → F .f32) : Done x w 0 0 f := by
  intro j h; unfold Before at h; omega

/-- A whole inner loop is the next outer trip's start. -/
theorem done_next {x : (⟨1, ![65535 + 1]⟩ : Shape).Idx → F .f32} {w : (⟨1, ![24575 + 1]⟩ : Shape).Idx → BitVec 32} {t : ℕ}
    {f : (⟨1, ![32767 + 1]⟩ : Shape).Idx → F .f32} (h : Done x w t 32 f) : Done x w (t + 1) 0 f := by
  intro j hj
  refine h j ?_
  unfold Before at hj ⊢
  omega

/-- After the last trip every word holds its value. -/
theorem done_last {x : (⟨1, ![65535 + 1]⟩ : Shape).Idx → F .f32} {w : (⟨1, ![24575 + 1]⟩ : Shape).Idx → BitVec 32}
    {f : (⟨1, ![32767 + 1]⟩ : Shape).Idx → F .f32} (h : Done x w 64 0 f) : f = fun j => tileOut x w (j 0).val := by
  funext j
  refine h j ?_
  have hj : (j 0).val < 32768 := (j 0).isLt
  unfold Before
  omega

/-- Trip `(t, b)` stores sixteen words: lane `j` is word `1984 (t / 4) + 16 t + 64 b + j`. If they hold their values and the
    rest of the row is as it was, the trip is done. -/
theorem done_step {x : (⟨1, ![65535 + 1]⟩ : Shape).Idx → F .f32} {w : (⟨1, ![24575 + 1]⟩ : Shape).Idx → BitVec 32} {t b : ℕ}
    {f g : (⟨1, ![32767 + 1]⟩ : Shape).Idx → F .f32} (hb : b < 32) (h : Done x w t b f)
    (hin : ∀ l, l < 16 → g (at1 32767 (1984 * (t / 4) + 16 * t + 64 * b + l)) = tileOut x w (1984 * (t / 4) + 16 * t + 64 * b + l))
    (hout : ∀ j, ¬ (1984 * (t / 4) + 16 * t + 64 * b ≤ (j 0).val ∧ (j 0).val < 1984 * (t / 4) + 16 * t + 64 * b + 16) → g j = f j) :
    Done x w t (b + 1) g := by
  intro j hj
  by_cases hc : 1984 * (t / 4) + 16 * t + 64 * b ≤ (j 0).val ∧ (j 0).val < 1984 * (t / 4) + 16 * t + 64 * b + 16
  · have := hin ((j 0).val - (1984 * (t / 4) + 16 * t + 64 * b)) (by omega)
    rw [show 1984 * (t / 4) + 16 * t + 64 * b + ((j 0).val - (1984 * (t / 4) + 16 * t + 64 * b)) = (j 0).val by omega, ← eq_at1] at this
    exact this
  · rw [hout j hc]
    refine h j ?_
    have hlt : (j 0).val < 32768 := (j 0).isLt
    unfold Before at hj ⊢
    omega

end Cert.Proof

end
-- ==== Proof.KernelOffsets.lean ====
/-
  The closed forms of the kernel's access offsets and the shape of its payloads.
-/
module

public import proofs.«01_k».proof.Proof.Common
public import proofs.«01_k».proof.Proof.Gen.Kernel
public import proofs.«01_k».proof.Proof.Gen.Kernel.Skeleton

@[expose] public section

noncomputable section

namespace Cert.Proof.Kernel

open Cert.Kernel Cert.Kernel.Gen
open Idealize.ShloMosaic

/-- The outer loop has 64 trips. -/
theorem trips1 : k0_t1_loop.trips = 64 := by decide +kernel
/-- The inner loop has 32 trips. -/
theorem trips2 : k0_t2_loop.trips = 32 := by decide +kernel

/-- Where trip `t` loads the sixteen atom indices of literal `r`. -/
theorem off2_eq : ∀ (t : Fin k0_t1_loop.trips) (r : Fin 24),
    k0_off2 t (BitVec.ofNat 32 (64 * r.val)) 0 = 1472 * (t.val / 4) + 16 * t.val + 64 * r.val := by decide +kernel

/-- Where trip `(t, b)` stores its sixteen words. -/
theorem off3_eq : ∀ (t : Fin k0_t1_loop.trips) (b : Fin k0_t2_loop.trips),
    k0_off3 t b 0 = 1984 * (t.val / 4) + 16 * t.val + 64 * b.val := by decide +kernel

/-- The word that trip `b` adds to every atom index, the start of row `b` of the table. -/
theorem rowWord : ∀ b : Fin k0_t2_loop.trips, Scalar.muli (Scf.iv 0#32 1#32 b) 2048#32 = BitVec.ofNat 32 (2048 * b.val) := by decide +kernel

end Cert.Proof.Kernel

end
-- ==== Proof.IdealOffsets.lean ====
/-
  The closed forms of the kernel's access offsets and the shape of its payloads.
-/
module

public import proofs.«01_k».proof.Proof.Common
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic

/-- The outer loop has 64 trips. -/
theorem trips1 : k0_t1_loop.trips = 64 := by decide +kernel
/-- The inner loop has 32 trips. -/
theorem trips2 : k0_t2_loop.trips = 32 := by decide +kernel

/-- Where trip `t` loads the sixteen atom indices of literal `r`. -/
theorem off2_eq : ∀ (t : Fin k0_t1_loop.trips) (r : Fin 24),
    k0_off2 t (BitVec.ofNat 32 (64 * r.val)) 0 = 1472 * (t.val / 4) + 16 * t.val + 64 * r.val := by decide +kernel

/-- Where trip `(t, b)` stores its sixteen words. -/
theorem off3_eq : ∀ (t : Fin k0_t1_loop.trips) (b : Fin k0_t2_loop.trips),
    k0_off3 t b 0 = 1984 * (t.val / 4) + 16 * t.val + 64 * b.val := by decide +kernel

/-- The word that trip `b` adds to every atom index, the start of row `b` of the table. -/
theorem rowWord : ∀ b : Fin k0_t2_loop.trips, Scalar.muli (Scf.iv 0#32 1#32 b) 2048#32 = BitVec.ofNat 32 (2048 * b.val) := by decide +kernel

end Cert.Proof.KernelIdeal

end
-- ==== Proof.IdealTrip.lean ====
/-
  One trip of the kernel's inner loop, and one of its outer loop: the sixteen words a trip stores hold their values.
-/
module

public import proofs.«01_k».proof.Defs
public import proofs.«01_k».proof.Proof.IdealOffsets
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program and its ghost state -/

/-- The labels of the whole program, the launch's apart. -/
abbrev ΛP : Labels := Pipeline.Sig Λ₀ (Fin 0) fun p => (pcfgs (F := F) p).Adm
/-- The launch's configuration. -/
abbrev K : SparseCore.Cfg τ sig (ΛP (F := F)) 1 := sc (F := F)
/-- The body table. -/
abbrev D [FloatOps F] : Defs nD τ sig (Elt F) (ΛP (F := F)) := Pipeline.defs pcfgs defs₀
/-- No variants. -/
abbrev 𝒱₀ : Variants := Variants.none
/-- The variants, lifted to the launch. -/
abbrev 𝒱 : Variants := 𝒱₀.lift
/-- The one variant. -/
abbrev v₀ : 𝒱.V := Sum.inl none

/-- The handshakes' rounds. -/
abbrev UH : Type := URounds (GSem nD τ sig) ℕ
/-- The handshakes' rounds beside the transfers' counters. -/
abbrev UU : Type := UH × Counters

local notation "𝕄" => MT nD τ sig (HIx 1) (Elt F) ℕ UU ℕ

/-- The handshakes' rounds, the left factor. -/
abbrev EH : Emb UH (MT nD τ sig (HIx 1) (Elt F) ℕ UU ℕ) := embL

/-- The batch-major table of valuations, the per-tile index rows and the per-tile output rows, in HBM. -/
abbrev xV : Memref sig .scVector .hbm S65536 .f32 := Memref.whole main_v4_scv
@[inherit_doc xV] abbrev iV : Memref sig .scVector .hbm S32x24576 .i32 := Memref.whole main_v3_scv
@[inherit_doc xV] abbrev oV : Memref sig .scVector .hbm S32x32768 .f32 := Memref.whole main_v5_scv
/-- A tile's scratch: its copy of the table, its index row, its output row. -/
abbrev sX : Memref sig .scVector .vmem S65536 .f32 := Memref.whole cc0_scratch0
@[inherit_doc sX] abbrev sI : Memref sig .scVector .vmem S24576 .i32 := Memref.whole cc0_scratch1
@[inherit_doc sX] abbrev sO : Memref sig .scVector .vmem S32768 .f32 := Memref.whole cc0_scratch2

/-- The SparseCore of a grid point. -/
abbrev cV (L : grid0.Coords) : Fin τ.nSC := (L 0).castLE hcore0
/-- The vector subcore of a grid point. -/
abbrev jV (L : grid0.Coords) : Fin τ.nSub := (L 1).castLE hsub0
/-- The thread of a grid point. -/
abbrev VT (d : Dev nD) (L : grid0.Coords) : Thread nD τ := V d (cV L) (jV L)

/-! ## The values a trip reads -/

/-- The sixteen atom indices of literal `r` that trip `t` loads. -/
def ivec (w : S24576.Idx → BitVec 32) (t r : ℕ) : IVec S16 32 :=
  fun j => w (at1 24575 (1472 * (t / 4) + 16 * t + 64 * r + (j 0).val))

/-- A load of sixteen words of the index scratch at the printed offset is that vector. -/
theorem readAt_ivec (w : Vec F S24576 .i32) (t : Fin k0_t1_loop.trips) (r : Fin 24) :
    (sI).view.readAt (Elt F) (Rect.unit (s := S24576) (k0_off2 t (BitVec.ofNat 32 (64 * r.val))) S16.size (k0_off2_inb t r)).toLoadRect w
      = ivec w t.val r.val := by
  funext j
  rw [View.readAt_apply]
  show w _ = w _
  congr 1
  refine (eq_at1 (n := 24575) _).trans ?_
  congr 1
  show k0_off2 t (BitVec.ofNat 32 (64 * r.val)) 0 + 1 * (j 0).val = _
  rw [off2_eq, Nat.one_mul]

/-- An indexed load of the table at a vector of positions, lane by lane. -/
theorem gather_lane (x : Vec F S65536 .f32) (v : IVec S16 32) (h : ∀ a j, ((![v]) a j).toNat < S65536.size a) (j : S16.Idx) :
    loadIdx (F := F) (((sX).access (.whole S65536)).read (Elt F) x) ![v] h j = x (at1 65535 (v j).toNat) := by
  show x _ = x _
  congr 1
  refine (eq_at1 (n := 65535) _).trans (congrArg _ ?_)
  show 0 + 1 * (v j).toNat = _
  omega

/-- The atom index a lane loaded, moved to row `b` of the table. -/
theorem rowAdd (v : IVec S16 32) (b : Fin k0_t2_loop.trips) (j : S16.Idx) (h : (v j).toNat < 2048) :
    (addi v (broadcast S16 (Scalar.muli (Scf.iv 0#32 1#32 b) 2048#32)) j).toNat = (v j).toNat + 2048 * b.val := by
  rw [rowWord]
  show (v j + BitVec.ofNat 32 (2048 * b.val)).toNat = _
  have hb : b.val < 32 := Nat.lt_of_lt_of_eq b.isLt trips2
  rw [BitVec.toNat_add, BitVec.toNat_ofNat]
  omega

/-- The table read at sixteen positions. -/
def look (x : Vec F S65536 .f32) (v : IVec S16 32) : Vec F S16 .f32 := fun j => x (at1 65535 (v j).toNat)

/-- An indexed load of the table is that reading. -/
theorem loadIdx_look (x : Vec F S65536 .f32) (v : IVec S16 32) (h : ∀ a j, ((![v]) a j).toNat < S65536.size a) :
    loadIdx (F := F) (((sX).access (.whole S65536)).read (Elt F) x) ![v] h = look x v :=
  funext fun j => gather_lane x v h j

variable [FloatOps F]

/-- A check that sixteen positions lie in the table, then the indexed load at them. -/
theorem wp_lookup {α : Type} (d : Dev nD) (L : grid0.Coords) (x : Buf (Elt F) ((sX).view.loc (VT d L)))
    {v : IVec S16 32} {dec : Decidable (∀ a j, ((![v] : Fin 1 → IVec S16 32) a j).toNat < S65536.size a)}
    {hl : (sX).view.Loads} {k : Vec F S16 .f32 → Prog (TpuEff nD τ sig (Elt F) Λ₀ (.scVector (cV L) (jV L))) α}
    {Q : α → sProp 𝕄} (hv : ∀ j, (v j).toNat < 65536) :
    ((sX).view.loc (VT d L) ↦{fullShare} x)
      ⊢ iprop((((sX).view.loc (VT d L) ↦{fullShare} x)
          -∗ wp frame (wpE (defs₀ (F := F)) 𝒱₀ (VT d L) none) Set.univ (k (look (F := F) x v)) Q)
        -∗ wp frame (wpE (defs₀ (F := F)) 𝒱₀ (VT d L) none) Set.univ
            (.op (.assume _ dec) fun r => SparseCore.vectorLoadIdx sX ![v] r.down hl >>= k) Q) := by
  have h : ∀ a j, ((![v] : Fin 1 → IVec S16 32) a j).toNat < S65536.size a := by
    intro a j
    obtain rfl : a = 0 := Subsingleton.elim _ _
    exact hv j
  rw [wp_assume_of 𝒱₀ (VT d L) none Set.univ h]
  iintro Hx Hk
  iapply (SparseCore.wp_vectorLoadIdx 𝒱₀ (VT d L) none Set.univ (base := sX) (s := S65536) (S := Finset.univ) (q := fullShare) (Finset.subset_univ _)) $$ Hx
  iintro Hx
  rw [loadIdx_look]
  iapply Hk
  iexact Hx

/-- The positions of a trip are inside the table. -/
theorem pos_lt (v : IVec S16 32) (b : Fin k0_t2_loop.trips) (h : ∀ j, (v j).toNat < 2048) (j : S16.Idx) :
    (addi v (broadcast S16 (Scalar.muli (Scf.iv 0#32 1#32 b) 2048#32)) j).toNat < 65536 := by
  have hb : b.val < 32 := Nat.lt_of_lt_of_eq b.isLt trips2
  have := h j
  rw [rowAdd v b j (h j)]
  omega

/-- Lane `j` of a lookup of literal `r` is the literal's valuation in the word that the lane stores. -/
theorem look_lit (x : Vec F S65536 .f32) (w : S24576.Idx → BitVec 32) (hw : ∀ k, (w k).toNat < 2048) (t : Fin k0_t1_loop.trips)
    (b : Fin k0_t2_loop.trips) (r : ℕ) (l : ℕ) (hl : l < 16) :
    look (F := F) x (addi (ivec w t.val r) (broadcast S16 (Scalar.muli (Scf.iv 0#32 1#32 b) 2048#32))) (at1 15 l)
      = lit x w (1984 * (t.val / 4) + 16 * t.val + 64 * b.val + l) r := by
  have hb : b.val < 32 := Nat.lt_of_lt_of_eq b.isLt trips2
  unfold look lit
  rw [rowAdd _ b _ (hw _)]
  unfold ivec
  rw [at1_val (n := 15) hl]
  congr 6 <;> omega

/-- The sixteen valuations of literal `r` that trip `(t, b)` looks up. -/
def lane (x : Vec F S65536 .f32) (w : S24576.Idx → BitVec 32) (t : Fin k0_t1_loop.trips) (b : Fin k0_t2_loop.trips) (r : ℕ) : Vec F S16 .f32 :=
  look x (addi (ivec w t.val r) (broadcast S16 (Scalar.muli (Scf.iv 0#32 1#32 b) 2048#32)))

/-- The sixteen words that trip `(t, b)` stores. -/
def tripVal (x : Vec F S65536 .f32) (w : S24576.Idx → BitVec 32) (t : Fin k0_t1_loop.trips) (b : Fin k0_t2_loop.trips) : Vec F S16 .f32 :=
  k0_pay1
    (k0_pay25 (k0_pay11 (lane x w t b 0) (lane x w t b 1) (lane x w t b 2) (lane x w t b 3) (lane x w t b 4) (lane x w t b 5) (lane x w t b 6) (lane x w t b 7) (lane x w t b 8))
      (k0_pay14 (lane x w t b 9) (lane x w t b 10)) (lane x w t b 11) (lane x w t b 12) (lane x w t b 13) (lane x w t b 14) (lane x w t b 15) (lane x w t b 16) (lane x w t b 17) (lane x w t b 18) (lane x w t b 19) (lane x w t b 20))
    (k0_pay28 (lane x w t b 21) (lane x w t b 22)) (lane x w t b 23)

/-- Lane `l` of the stored words is its word of the tile's output. -/
theorem tripVal_lane (x : Vec F S65536 .f32) (w : S24576.Idx → BitVec 32) (hw : ∀ k, (w k).toNat < 2048) (t : Fin k0_t1_loop.trips)
    (b : Fin k0_t2_loop.trips) (l : ℕ) (hl : l < 16) :
    tripVal (F := F) x w t b (at1 15 l) = tileOut (F := F) x w (1984 * (t.val / 4) + 16 * t.val + 64 * b.val + l) := by
  have h : ∀ r, lane x w t b r (at1 15 l) = lit x w (1984 * (t.val / 4) + 16 * t.val + 64 * b.val + l) r := fun r => look_lit x w hw t b r l hl
  simp only [tileOut, conj, Nat.reduceMul, Nat.reduceAdd, ← h]
  rfl

/-- Storing words that hold their values into the trip's window finishes the trip. -/
theorem done_stored (d : Dev nD) (L : grid0.Coords) (x : Vec F S65536 .f32) (w : S24576.Idx → BitVec 32)
    (t : Fin k0_t1_loop.trips) (b : Fin k0_t2_loop.trips) (f : Buf (Elt F) ((sO).view.loc (VT d L))) (hf : Done (F := F) x w t.val b.val f)
    (v : Vec F S16 .f32) (hv : ∀ l, l < 16 → v (at1 15 l) = tileOut (F := F) x w (1984 * (t.val / 4) + 16 * t.val + 64 * b.val + l)) :
    Done (F := F) x w t.val (b.val + 1)
      (((sO).access (Rect.unit (s := S32768) (k0_off3 t b) S16.size (k0_off3_inb t b))).write (Elt F) f v Finset.univ) := by
  have hb : b.val < 32 := Nat.lt_of_lt_of_eq b.isLt trips2
  have ht : t.val < 64 := Nat.lt_of_lt_of_eq t.isLt trips1
  have hemb : ∀ j : S16.Idx, (((sO).access (Rect.unit (s := S32768) (k0_off3 t b) S16.size (k0_off3_inb t b))).emb j 0 : Fin _).val
      = 1984 * (t.val / 4) + 16 * t.val + 64 * b.val + (j 0).val := by
    intro j
    show k0_off3 t b 0 + 1 * (j 0).val = _
    rw [off3_eq, Nat.one_mul]
  refine done_step hb hf ?_ ?_
  · intro l hl
    rw [← hv l hl]
    have e : at1 32767 (1984 * (t.val / 4) + 16 * t.val + 64 * b.val + l)
        = ((sO).access (Rect.unit (s := S32768) (k0_off3 t b) S16.size (k0_off3_inb t b))).emb (at1 15 l) := by
      refine Eq.symm ((eq_at1 (n := 32767) _).trans (congrArg _ ?_))
      rw [hemb, at1_val (n := 15) hl]
    rw [e]
    exact View.write_emb_of_mem (Val := Elt F) (v := ((sO).access (Rect.unit (s := S32768) (k0_off3 t b) S16.size (k0_off3_inb t b)))) f v (Finset.mem_univ _)
  · intro j hj
    refine View.write_of_not_mem (Val := Elt F) (v := ((sO).access (Rect.unit (s := S32768) (k0_off3 t b) S16.size (k0_off3_inb t b)))) f v _ fun hm => hj ?_
    obtain ⟨y, -, rfl⟩ := Finset.mem_map.mp hm
    have hy : (y 0).val < 16 := (y 0).isLt
    have := hemb y
    omega

set_option maxHeartbeats 4000000 in
/-- Trip `b` of the inner loop: its sixteen words are stored, the table unchanged. -/
theorem trip2 (d : Dev nD) (L : grid0.Coords) (x : Buf (Elt F) ((sX).view.loc (VT d L))) (w : S24576.Idx → BitVec 32)
    (hw : ∀ k, (w k).toNat < 2048) (t : Fin k0_t1_loop.trips) (b : Fin k0_t2_loop.trips) (acc : BitVec 32)
    (f : Buf (Elt F) ((sO).view.loc (VT d L))) (hf : Done (F := F) x w t.val b.val f) :
    (iprop(((sX).view.loc (VT d L) ↦{fullShare} x) ∗ ((sO).view.loc (VT d L) ↦{fullShare} f)) : sProp 𝕄)
      ⊢ wp frame (wpE (defs₀ (F := F)) 𝒱₀ (VT d L) none) Set.univ
          (k0_t2_body L xV (Memref.isWhole_whole _) iV (Memref.isWhole_whole _) oV (Memref.isWhole_whole _) sX (Memref.isWhole_whole _)
            sI (Memref.isWhole_whole _) sO (Memref.isWhole_whole _) cc0_scoped0 cc0_scoped1 cc0_scoped2 t
            (ivec w t.val 0) (ivec w t.val 1) (ivec w t.val 2) (ivec w t.val 3) (ivec w t.val 4) (ivec w t.val 5) (ivec w t.val 6) (ivec w t.val 7) (ivec w t.val 8) (ivec w t.val 9) (ivec w t.val 10) (ivec w t.val 11) (ivec w t.val 12) (ivec w t.val 13) (ivec w t.val 14) (ivec w t.val 15) (ivec w t.val 16) (ivec w t.val 17) (ivec w t.val 18) (ivec w t.val 19) (ivec w t.val 20) (ivec w t.val 21) (ivec w t.val 22) (ivec w t.val 23) b acc)
          fun _ => iprop(((sX).view.loc (VT d L) ↦{fullShare} x)
            ∗ ∃ g, ⌜Done (F := F) x w t.val (b.val + 1) g⌝ ∗ ((sO).view.loc (VT d L) ↦{fullShare} g)) := by
  have hv : ∀ r j, (ivec w t.val r j).toNat < 2048 := fun r j => hw _
  simp only [k0_t2_body, k0_part1_eq_skeleton, k0_part2_eq_skeleton, k0_part1_skel, k0_part2_skel, Prog.lift, Prog.bind_op, Prog.bind_ret,
    Prog.pure_eq_ret, Prog.bind_assoc]
  iintro ⟨Hx, Hf⟩
  iapply (wp_lookup (F := F) d L x (pos_lt _ b (hv 0))) $$ Hx
  iintro Hx
  iapply (wp_lookup (F := F) d L x (pos_lt _ b (hv 1))) $$ Hx
  iintro Hx
  iapply (wp_lookup (F := F) d L x (pos_lt _ b (hv 2))) $$ Hx
  iintro Hx
  iapply (wp_lookup (F := F) d L x (pos_lt _ b (hv 3))) $$ Hx
  iintro Hx
  iapply (wp_lookup (F := F) d L x (pos_lt _ b (hv 4))) $$ Hx
  iintro Hx
  iapply (wp_lookup (F := F) d L x (pos_lt _ b (hv 5))) $$ Hx
  iintro Hx
  iapply (wp_lookup (F := F) d L x (pos_lt _ b (hv 6))) $$ Hx
  iintro Hx
  iapply (wp_lookup (F := F) d L x (pos_lt _ b (hv 7))) $$ Hx
  iintro Hx
  iapply (wp_lookup (F := F) d L x (pos_lt _ b (hv 8))) $$ Hx
  iintro Hx
  iapply (wp_lookup (F := F) d L x (pos_lt _ b (hv 9))) $$ Hx
  iintro Hx
  iapply (wp_lookup (F := F) d L x (pos_lt _ b (hv 10))) $$ Hx
  iintro Hx
  iapply (wp_lookup (F := F) d L x (pos_lt _ b (hv 11))) $$ Hx
  iintro Hx
  iapply (wp_lookup (F := F) d L x (pos_lt _ b (hv 12))) $$ Hx
  iintro Hx
  iapply (wp_lookup (F := F) d L x (pos_lt _ b (hv 13))) $$ Hx
  iintro Hx
  iapply (wp_lookup (F := F) d L x (pos_lt _ b (hv 14))) $$ Hx
  iintro Hx
  iapply (wp_lookup (F := F) d L x (pos_lt _ b (hv 15))) $$ Hx
  iintro Hx
  iapply (wp_lookup (F := F) d L x (pos_lt _ b (hv 16))) $$ Hx
  iintro Hx
  iapply (wp_lookup (F := F) d L x (pos_lt _ b (hv 17))) $$ Hx
  iintro Hx
  iapply (wp_lookup (F := F) d L x (pos_lt _ b (hv 18))) $$ Hx
  iintro Hx
  iapply (wp_lookup (F := F) d L x (pos_lt _ b (hv 19))) $$ Hx
  iintro Hx
  iapply (wp_lookup (F := F) d L x (pos_lt _ b (hv 20))) $$ Hx
  iintro Hx
  iapply (wp_lookup (F := F) d L x (pos_lt _ b (hv 21))) $$ Hx
  iintro Hx
  iapply (wp_lookup (F := F) d L x (pos_lt _ b (hv 22))) $$ Hx
  iintro Hx
  iapply (wp_lookup (F := F) d L x (pos_lt _ b (hv 23))) $$ Hx
  iintro Hx
  iapply (wp_load 𝒱₀ (VT d L) none Set.univ (m := sO) (S := Finset.univ) (Finset.subset_univ _)) $$ Hf
  iintro Hf
  iapply (wp_store 𝒱₀ (VT d L) none Set.univ (m := sO) (r := Rect.unit (s := S32768) (k0_off3 t b) S16.size (k0_off3_inb t b)) (S := Finset.univ) (Finset.subset_univ _)) $$ Hf
  iintro Hf
  sl_step
  isplitl [Hx]; · iexact Hx
  iexists (((sO).access (Rect.unit (s := S32768) (k0_off3 t b) S16.size (k0_off3_inb t b))).write (Elt F) f (tripVal x w t b) Finset.univ)
  isplitr
  · ipureintro
    exact done_stored d L x w t b f hf _ (tripVal_lane x w hw t b)
  · iexact Hf

end Cert.Proof.KernelIdeal

end
-- ==== Proof.IdealLoop.lean ====
/-
  One trip of the kernel's outer loop, and the whole outer loop: the tile's output row.
-/
module

public import proofs.«01_k».proof.Defs
public import proofs.«01_k».proof.Proof.IdealTrip
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- A load of the sixteen atom indices of literal `r` in trip `t`. -/
theorem wp_ivec {α : Type} (d : Dev nD) (L : grid0.Coords) (w : Buf (Elt F) ((sI).view.loc (VT d L))) (t : Fin k0_t1_loop.trips) (r : Fin 24)
    {hl : (sI).view.LoadsAt (Rect.unit (s := S24576) (k0_off2 t (BitVec.ofNat 32 (64 * r.val))) S16.size (k0_off2_inb t r)).toLoadRect}
    {k : Vec F S16 .i32 → Prog (TpuEff nD τ sig (Elt F) Λ₀ (.scVector (cV L) (jV L))) α} {Q : α → sProp 𝕄} :
    ((sI).view.loc (VT d L) ↦{fullShare} w)
      ⊢ iprop((((sI).view.loc (VT d L) ↦{fullShare} w)
          -∗ wp frame (wpE (defs₀ (F := F)) 𝒱₀ (VT d L) none) Set.univ (k (ivec w t.val r.val)) Q)
        -∗ wp frame (wpE (defs₀ (F := F)) 𝒱₀ (VT d L) none) Set.univ
            (.op (.load sI (Rect.unit (s := S24576) (k0_off2 t (BitVec.ofNat 32 (64 * r.val))) S16.size (k0_off2_inb t r)).toLoadRect hl) k) Q) := by
  iintro Hw Hk
  iapply (wp_load 𝒱₀ (VT d L) none Set.univ (m := sI) (S := Finset.univ) (Finset.subset_univ _)) $$ Hw
  iintro Hw
  rw [readAt_ivec]
  iapply Hk
  iexact Hw

/-- What holds before trip `b` of the inner loop of trip `t`. -/
def inv2 (d : Dev nD) (L : grid0.Coords) (x : Buf (Elt F) ((sX).view.loc (VT d L))) (w : S24576.Idx → BitVec 32) (t b : ℕ) : sProp 𝕄 :=
  iprop(((sX).view.loc (VT d L) ↦{fullShare} x) ∗ ∃ g, ⌜Done (F := F) x w t b g⌝ ∗ ((sO).view.loc (VT d L) ↦{fullShare} g))

set_option maxHeartbeats 4000000 in
/-- Trip `t` of the outer loop. -/
theorem trip1 (d : Dev nD) (L : grid0.Coords) (x : Buf (Elt F) ((sX).view.loc (VT d L))) (w : Buf (Elt F) ((sI).view.loc (VT d L)))
    (hw : ∀ k, (w k : BitVec 32).toNat < 2048) (t : Fin k0_t1_loop.trips) (acc : BitVec 32) :
    (iprop(((sI).view.loc (VT d L) ↦{fullShare} w) ∗ inv2 d L x w t.val 0) : sProp 𝕄)
      ⊢ wp frame (wpE (defs₀ (F := F)) 𝒱₀ (VT d L) none) Set.univ
          (k0_t1_body L xV (Memref.isWhole_whole _) iV (Memref.isWhole_whole _) oV (Memref.isWhole_whole _) sX (Memref.isWhole_whole _)
            sI (Memref.isWhole_whole _) sO (Memref.isWhole_whole _) cc0_scoped0 cc0_scoped1 cc0_scoped2 t acc)
          fun _ => iprop(((sI).view.loc (VT d L) ↦{fullShare} w) ∗ inv2 d L x w (t.val + 1) 0) := by
  simp only [k0_t1_body, k0_part3_eq_skeleton, k0_part4_eq_skeleton, k0_part3_skel, k0_part4_skel, Prog.lift, Prog.bind_op, Prog.bind_ret,
    Prog.pure_eq_ret, Prog.bind_assoc]
  iintro ⟨Hw, HI⟩
  iapply (wp_ivec (F := F) d L w t 0) $$ Hw
  iintro Hw
  iapply (wp_ivec (F := F) d L w t 1) $$ Hw
  iintro Hw
  iapply (wp_ivec (F := F) d L w t 2) $$ Hw
  iintro Hw
  iapply (wp_ivec (F := F) d L w t 3) $$ Hw
  iintro Hw
  iapply (wp_ivec (F := F) d L w t 4) $$ Hw
  iintro Hw
  iapply (wp_ivec (F := F) d L w t 5) $$ Hw
  iintro Hw
  iapply (wp_ivec (F := F) d L w t 6) $$ Hw
  iintro Hw
  iapply (wp_ivec (F := F) d L w t 7) $$ Hw
  iintro Hw
  iapply (wp_ivec (F := F) d L w t 8) $$ Hw
  iintro Hw
  iapply (wp_ivec (F := F) d L w t 9) $$ Hw
  iintro Hw
  iapply (wp_ivec (F := F) d L w t 10) $$ Hw
  iintro Hw
  iapply (wp_ivec (F := F) d L w t 11) $$ Hw
  iintro Hw
  iapply (wp_ivec (F := F) d L w t 12) $$ Hw
  iintro Hw
  iapply (wp_ivec (F := F) d L w t 13) $$ Hw
  iintro Hw
  iapply (wp_ivec (F := F) d L w t 14) $$ Hw
  iintro Hw
  iapply (wp_ivec (F := F) d L w t 15) $$ Hw
  iintro Hw
  iapply (wp_ivec (F := F) d L w t 16) $$ Hw
  iintro Hw
  iapply (wp_ivec (F := F) d L w t 17) $$ Hw
  iintro Hw
  iapply (wp_ivec (F := F) d L w t 18) $$ Hw
  iintro Hw
  iapply (wp_ivec (F := F) d L w t 19) $$ Hw
  iintro Hw
  iapply (wp_ivec (F := F) d L w t 20) $$ Hw
  iintro Hw
  iapply (wp_ivec (F := F) d L w t 21) $$ Hw
  iintro Hw
  iapply (wp_ivec (F := F) d L w t 22) $$ Hw
  iintro Hw
  iapply (wp_ivec (F := F) d L w t 23) $$ Hw
  iintro Hw
  sl_for (fun b _ => inv2 d L x w t.val b) $$ [HI]
  case region =>
    intro b acc
    unfold inv2
    iintro ⟨Hx, %f, %hf, Hf⟩
    iapply (trip2 (F := F) d L x w hw t b acc f hf)
    isplitl [Hx]; · iexact Hx
    iexact Hf
  · iexact HI
  iintro %_ HI
  sl_step
  isplitl [Hw]; · iexact Hw
  unfold inv2
  icases HI with ⟨Hx, %g, %hg, Hg⟩
  isplitl [Hx]; · iexact Hx
  iexists g
  isplitr
  · ipureintro
    exact done_next (Eq.mp (congrArg (fun n => Done (F := F) x w t.val n g) trips2) hg)
  · iexact Hg

end Cert.Proof.KernelIdeal

end
-- ==== Proof.IdealTile.lean ====
/-
  The kernel on one tile: its two fetches, its loops and its write-out leave the tile's output row at its values.
-/
module

public import proofs.«01_k».proof.Defs
public import proofs.«01_k».proof.Proof.IdealLoop
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The arrays in HBM and the tiles' rows of them -/

/-- The table, the index rows and the output rows, as locations of device `d`. -/
abbrev xLoc (d : Dev nD) : Loc nD τ sig := (SparseCore.T d).loc main_v4
@[inherit_doc xLoc] abbrev iLoc (d : Dev nD) : Loc nD τ sig := (SparseCore.T d).loc main_v3
@[inherit_doc xLoc] abbrev oLoc (d : Dev nD) : Loc nD τ sig := (SparseCore.T d).loc main_v5

/-- The row that subcore `s` of SparseCore `c` computes. -/
def wid (c : Fin 2) (s : Fin 16) : Fin 32 := ⟨2 * s.val + c.val, by omega⟩

/-- Row `i` of the index rows. -/
def iSet (i : Fin 32) : Finset S32x24576.Idx := Finset.univ.filter fun k => (k 0).val = i.val
/-- Row `i` of the output rows. -/
def oSet (i : Fin 32) : Finset S32x32768.Idx := Finset.univ.filter fun k => (k 0).val = i.val

/-- Membership in a row is the row coordinate. -/
theorem mem_iSet {i : Fin 32} {k : S32x24576.Idx} : k ∈ iSet i ↔ k 0 = i := by
  unfold iSet
  exact (Finset.mem_filter_univ _).trans Fin.val_inj
/-- Membership in a row is the row coordinate. -/
theorem mem_oSet {i : Fin 32} {k : S32x32768.Idx} : k ∈ oSet i ↔ k 0 = i := by
  unfold oSet
  exact (Finset.mem_filter_univ _).trans Fin.val_inj

/-- The grid point's row. -/
abbrev wL (L : grid0.Coords) : Fin 32 := wid (L 0) (L 1)

/-- The index row a tile slices. -/
abbrev iRowK (L : grid0.Coords) : Memref sig .scVector .hbm S24576 .i32 :=
  (iV.slice (Rect.unit (s := S32x24576) (k0_off1 L) S1x24576.size (k0_off1_inb L)) (fun _ => rfl)).squeeze S24576 squeezes_S1x24576_S24576
/-- The output row a tile slices. -/
abbrev oRowK (L : grid0.Coords) : Memref sig .scVector .hbm S32768 .f32 :=
  (oV.slice (Rect.unit (s := S32x32768) (k0_off4 L) S1x32768.size (k0_off4_inb L)) (fun _ => rfl)).squeeze S32768 squeezes_S1x32768_S32768

/-- Word `k` of the sliced index row is word `k` of the tile's row. -/
theorem iRowK_emb (L : grid0.Coords) (k : S24576.Idx) : (iRowK L).view.emb k = (ix2 (wL L) (k 0) : S32x24576.Idx) := by
  show (Rect.unit (s := S32x24576) (k0_off1 L) S1x24576.size (k0_off1_inb L)).emb (Shape.reshapeEquiv _ k) = _
  rw [Shape.reshapeEquiv_cons_one (n := 1) (d := ![24576])]
  funext a
  apply Fin.ext
  match a with
  | 0 => show k0_off1 L 0 + 1 * 0 = 2 * (L 1).val + (L 0).val; rw [k0_off1_eq]; rfl
  | 1 => show k0_off1 L 1 + 1 * (k 0).val = (k 0).val; rw [k0_off1_eq]; show 0 + 1 * (k 0).val = _; omega

/-- Word `k` of the sliced output row is word `k` of the tile's row. -/
theorem oRowK_emb (L : grid0.Coords) (k : S32768.Idx) : (oRowK L).view.emb k = (ix2 (wL L) (k 0) : S32x32768.Idx) := by
  show (Rect.unit (s := S32x32768) (k0_off4 L) S1x32768.size (k0_off4_inb L)).emb (Shape.reshapeEquiv _ k) = _
  rw [Shape.reshapeEquiv_cons_one (n := 1) (d := ![32768])]
  funext a
  apply Fin.ext
  match a with
  | 0 => show k0_off4 L 0 + 1 * 0 = 2 * (L 1).val + (L 0).val; rw [k0_off4_eq]; rfl
  | 1 => show k0_off4 L 1 + 1 * (k 0).val = (k 0).val; rw [k0_off4_eq]; show 0 + 1 * (k 0).val = _; omega

/-- The sliced index row covers the tile's row. -/
theorem set_iRowK (L : grid0.Coords) : (iRowK L).view.set = iSet (wL L) := by
  ext k
  refine Finset.mem_map.trans ⟨?_, fun hk => ?_⟩
  · rintro ⟨y, -, rfl⟩
    exact mem_iSet.mpr (congrFun (iRowK_emb L y) 0)
  · refine ⟨ix1 (k 1), Finset.mem_univ _, ?_⟩
    refine (iRowK_emb L _).trans (funext fun a => ?_)
    match a with
    | 0 => exact (mem_iSet.mp hk).symm
    | 1 => rfl

/-- The sliced output row covers the tile's row. -/
theorem set_oRowK (L : grid0.Coords) : (oRowK L).view.set = oSet (wL L) := by
  ext k
  refine Finset.mem_map.trans ⟨?_, fun hk => ?_⟩
  · rintro ⟨y, -, rfl⟩
    exact mem_oSet.mpr (congrFun (oRowK_emb L y) 0)
  · refine ⟨ix1 (k 1), Finset.mem_univ _, ?_⟩
    refine (oRowK_emb L _).trans (funext fun a => ?_)
    match a with
    | 0 => exact (mem_oSet.mp hk).symm
    | 1 => rfl

/-! ## A tile's own buffers and semaphores -/

/-- The cell of a tile's DMA semaphore. -/
abbrev cell (d : Dev nD) (L : grid0.Coords) (s : DmaSems sig S_) : GSem nD τ sig := (VT d L, .dma s.sem)

/-- The three DMA semaphores of the copies are among the tile's own. -/
theorem ownSems_tile (d : Dev nD) (L : grid0.Coords) :
    (ownSems0 (VT d L) : sProp 𝕄)
      = iprop(semVal (cell d L cc0_scoped0) 0 ∗ semVal (cell d L cc0_scoped1) 0 ∗ semVal (cell d L cc0_scoped2) 0
          ∗ bigSep ((((ownCells (VT d L)).erase (cell d L cc0_scoped0)).erase (cell d L cc0_scoped1)).erase (cell d L cc0_scoped2))
              fun g => semVal g 0) := by
  have hm : ∀ s : DmaSems sig S_, (SemLoc.dma s.sem : SemLoc sig).isScoped .scVector = true → cell d L s ∈ ownCells (VT d L) :=
    fun s h => (mem_ownCells (g := cell d L s)).mpr ⟨rfl, h⟩
  have hne : ∀ s s' : DmaSems sig S_, (SemLoc.dma s.sem : SemLoc sig) ≠ .dma s'.sem → cell d L s ≠ cell d L s' :=
    fun _ _ h e => h (Prod.mk.inj e).2
  unfold SparseCore.Cfg.ownSems0
  rw [SparseCore.bigSep_erase' (hm cc0_scoped0 (by decide)),
    SparseCore.bigSep_erase' (Finset.mem_erase.mpr ⟨hne cc0_scoped1 cc0_scoped0 (by decide), hm cc0_scoped1 (by decide)⟩),
    SparseCore.bigSep_erase' (Finset.mem_erase.mpr ⟨hne cc0_scoped2 cc0_scoped1 (by decide),
      Finset.mem_erase.mpr ⟨hne cc0_scoped2 cc0_scoped0 (by decide), hm cc0_scoped2 (by decide)⟩⟩)]

/-- The three scratch buffers are among the tile's own. -/
theorem ownBufs_tile (d : Dev nD) (L : grid0.Coords) :
    (ownBufs (VT d L) : sProp 𝕄)
      = iprop((∃ f, sX.view.loc (VT d L) ↦{fullShare} f) ∗ (∃ f, sI.view.loc (VT d L) ↦{fullShare} f) ∗ (∃ f, sO.view.loc (VT d L) ↦{fullShare} f)
          ∗ bigSep ((((ownRefs (τ := τ) (VT d L).2).erase ((VT d L).2.devRef cc0_scratch0)).erase
              ((VT d L).2.devRef cc0_scratch1)).erase ((VT d L).2.devRef cc0_scratch2))
              fun b => iprop(∃ f, ((d, b) : Loc nD τ sig) ↦{fullShare} f)) := by
  have hm0 : (VT d L).2.devRef cc0_scratch0 ∈ ownRefs (τ := τ) (VT d L).2 :=
    SparseCore.Cfg.mem_ownRefs_of_owner (p := Proc.scVector (cV L) (jV L)) (b := (Proc.scVector (cV L) (jV L)).devRef cc0_scratch0) rfl
  have hm1 : (VT d L).2.devRef cc0_scratch1 ∈ ownRefs (τ := τ) (VT d L).2 :=
    SparseCore.Cfg.mem_ownRefs_of_owner (p := Proc.scVector (cV L) (jV L)) (b := (Proc.scVector (cV L) (jV L)).devRef cc0_scratch1) rfl
  have hm2 : (VT d L).2.devRef cc0_scratch2 ∈ ownRefs (τ := τ) (VT d L).2 :=
    SparseCore.Cfg.mem_ownRefs_of_owner (p := Proc.scVector (cV L) (jV L)) (b := (Proc.scVector (cV L) (jV L)).devRef cc0_scratch2) rfl
  have hne : ∀ r r' : Ref sig .scVector, r ≠ r' → (VT d L).2.devRef r ≠ (VT d L).2.devRef r' :=
    fun _ _ h e => h (Proc.devRef_injective _ e)
  unfold SparseCore.Cfg.ownBufs
  refine (SparseCore.bigSep_erase' (hm0)).trans ?_
  rw [SparseCore.bigSep_erase' (Finset.mem_erase.mpr ⟨hne cc0_scratch1 cc0_scratch0 (by decide), hm1⟩),
    SparseCore.bigSep_erase' (Finset.mem_erase.mpr ⟨hne cc0_scratch2 cc0_scratch1 (by decide),
      Finset.mem_erase.mpr ⟨hne cc0_scratch2 cc0_scratch0 (by decide), hm2⟩⟩)]

/-! ## What a tile is given and gives back -/

/-- A tile's share of the table, for reading. -/
abbrev xShare (c : Fin 2) (i : Fin 16) : PosShare TreeShare := Transfers.shareTok (Transfers.shareTok fullShare 2 c) 16 i

/-- What a tile is given: a share of the table, its index row, its output row. -/
def given (d : Dev nD) (X : Buf (Elt F) (xLoc d)) (I : Buf (Elt F) (iLoc d)) (f : Buf (Elt F) (oLoc d)) (c : Fin 2) (i : Fin 16) : sProp 𝕄 :=
  iprop((xLoc d ↦{xShare c i} X) ∗ (iLoc d ↦[iSet (wid c i)]{fullShare} I) ∗ (oLoc d ↦[oSet (wid c i)]{fullShare} f))

/-- What the fetch of the index row lands in the scratch. -/
def idxRow (d : Dev nD) (I : Buf (Elt F) (iLoc d)) (L : grid0.Coords) : S24576.Idx → BitVec 32 :=
  fun k => (I : S32x24576.Idx → BitVec 32) (ix2 (wL L) (k 0))

variable [FloatOps F]

/-- The fetch of the table lands it in the scratch. -/
theorem land_x (d : Dev nD) (L : grid0.Coords) (X : Buf (Elt F) (xLoc d)) (f : Buf (Elt F) (sX.view.loc (VT d L))) :
    View.write (Elt F) sX.view f X Finset.univ = X :=
  View.write_whole_univ _ _ _

/-- The fetch of the index row lands it in the scratch. -/
theorem land_i (d : Dev nD) (L : grid0.Coords) (I : Buf (Elt F) (iLoc d)) (f : Buf (Elt F) (sI.view.loc (VT d L))) :
    View.write (Elt F) sI.view f ((iRowK L).view.read (Elt F) I) Finset.univ = idxRow d I L := by
  refine (View.write_whole_univ _ _ _).trans (funext fun k => ?_)
  show I ((iRowK L).view.emb k) = _
  rw [iRowK_emb]
  rfl

/-- The write-out of the tile's output lands its row of all the output rows. -/
theorem land_o (d : Dev nD) (L : grid0.Coords) (X : Buf (Elt F) (xLoc d)) (I : Buf (Elt F) (iLoc d)) (f : Buf (Elt F) (oLoc d))
    (j : S32x32768.Idx) (hj : j ∈ oSet (wL L)) :
    (oRowK L).view.writes (Elt F) f [⟨Rect.whole S32768, fun k : S32768.Idx => tileOut (F := F) X (idxRow d I L) (k 0).val⟩] j
      = outW (F := F) X I j := by
  rw [← set_oRowK] at hj
  obtain ⟨k, -, rfl⟩ := Finset.mem_map.mp hj
  have e : (oRowK L).view.emb k = ((oRowK L).view.slice (Rect.whole S32768)).emb k := by
    show (oRowK L).view.emb k = (oRowK L).view.emb ((Rect.whole S32768).emb k)
    rw [Rect.emb_whole_apply]
  rw [View.writes_singleton, e]
  refine (View.write_emb_of_mem (Val := Elt F) (v := (oRowK L).view.slice (Rect.whole S32768)) f _ (Finset.mem_univ k)).trans ?_
  rw [← e, oRowK_emb]
  rfl

/-- The written row, held, is the tile's row of all the output rows. -/
theorem row_out (d : Dev nD) (L : grid0.Coords) (X : Buf (Elt F) (xLoc d)) (I : Buf (Elt F) (iLoc d)) (f : Buf (Elt F) (oLoc d)) :
    ((oRowK L).view.loc (VT d L) ↦[(oRowK L).view.set]{fullShare}
        (oRowK L).view.writes (Elt F) f [⟨Rect.whole S32768, fun k : S32768.Idx => tileOut (F := F) X (idxRow d I L) (k 0).val⟩] : sProp 𝕄)
      = oLoc d ↦[oSet (wL L)]{fullShare} outW (F := F) X I := by
  rw [set_oRowK]
  refine pointsTo_congr fun j hj => ?_
  exact land_o d L X I f j hj

/-- The kernel on a tile: its output row ends at its values, its scratch and its semaphores back. -/
theorem tile_body (hF : (K (F := F)).Facts) (d : Dev nD) (L : grid0.Coords) (X : Buf (Elt F) (xLoc d)) (I : Buf (Elt F) (iLoc d))
    (f : Buf (Elt F) (oLoc d)) (hI : ∀ k, (I k : BitVec 32).toNat < 2048)
    (O : CellTallies nD τ sig (HIx 1)) (W : Waits sig (HIx 1)) (hO : ∀ g, O g none = 0) :
    iprop(levAts (K (F := F)).L (K (F := F)).lev ∗ emp ∗ given d X I f (L 0) (L 1)
        ∗ scopedBufs (VT d L) ∗ scopedSems0 (VT d L) ∗ owes (VT d L) O W)
      ⊢ wp frame (wpE (defs₀ (F := F)) 𝒱₀ (VT d L) none) Set.univ
          (cc0__sc_body L xV (Memref.isWhole_whole _) iV (Memref.isWhole_whole _) oV (Memref.isWhole_whole _)
            sX (Memref.isWhole_whole _) sI (Memref.isWhole_whole _) sO (Memref.isWhole_whole _) cc0_scoped0 cc0_scoped1 cc0_scoped2)
          fun _ => iprop(given d X I (outW (F := F) X I) (L 0) (L 1) ∗ scopedBufs (VT d L) ∗ scopedSems0 (VT d L)
            ∗ ∃ W', ⌜∀ p ∈ W', p ∈ W ∨ p.2 = none⌝ ∗ owes (VT d L) O W') := by
  simp only [cc0__sc_body_eq_skeleton]; unfold cc0__sc_body_skel
  rw [(K (F := F)).scopedBufs_V hF d (cV L) (jV L), SparseCore.Cfg.scopedSems0_V (Val := Elt F) d (cV L) (jV L), ownSems_tile, ownBufs_tile]
  unfold given
  iintro ⟨#Hlv, -, ⟨Hx, Hi, Ho⟩, ⟨⟨%fx, Hsx⟩, ⟨%fi, Hsi⟩, ⟨%fo, Hso⟩, Hbufs⟩, ⟨Hs0, Hs1, Hs2, Hsems⟩, HO⟩
  ihave Hmw := ((K (F := F)).mayWaits_none (thr := VT d L) hO) $$ Hlv
  ihave Hx' := (Entails.of_eq (show (xLoc d ↦{xShare (L 0) (L 1)} X : sProp 𝕄) = xV.view.loc (VT d L) ↦{xShare (L 0) (L 1)} X from rfl)) $$ Hx
  ihave Hi' := (Entails.of_eq (show (iLoc d ↦[iSet (wL L)]{fullShare} I : sProp 𝕄)
    = (iRowK L).view.loc (VT d L) ↦[(iRowK L).view.set]{fullShare} I by rw [set_iRowK])) $$ Hi
  ihave Ho' := (Entails.of_eq (show (oLoc d ↦[oSet (wL L)]{fullShare} f : sProp 𝕄)
    = (oRowK L).view.loc (VT d L) ↦[(oRowK L).view.set]{fullShare} f by rw [set_oRowK])) $$ Ho
  sl_exec
  rw [show View.write (Elt F) sX.view fx (tile_body.sl.dma0 d X) Finset.univ = X from land_x d L X fx,
    show View.write (Elt F) sI.view fi (tile_body.sl.dma0_1 d L I) Finset.univ = idxRow d I L from land_i d L I fi]
  sl_for (fun t _ => iprop((sI.view.loc (VT d L) ↦{fullShare} idxRow d I L) ∗ inv2 d L X (idxRow d I L) t 0)) $$ [Hsx Hsi Hso]
  case region =>
    intro t acc
    exact trip1 (F := F) d L X (idxRow d I L) (fun k => hI _) t acc
  · isplitl [Hsi]; · iexact Hsi
    unfold inv2
    isplitl [Hsx]; · iexact Hsx
    iexists fo
    isplitr
    · ipureintro; exact done_zero (F := F) _ _ _
    · iexact Hso
  iintro %_ HI
  unfold inv2
  icases HI with ⟨Hsi, Hsx, %g, %hg, Hso⟩
  sl_exec
  rw [show tile_body.sl.dma0_2 g = g from rfl]
  obtain rfl : g = fun k => tileOut (F := F) X (idxRow d I L) (k 0).val :=
    done_last (Eq.mp (congrArg (fun n => Done (F := F) X (idxRow d I L) n 0 g) trips1) hg)
  sl_step
  isplitl [Hx' Hi' Ho']
  · isplitl [Hx']; · iexact Hx'
    isplitl [Hi']
    · rw [← set_iRowK]; iexact Hi'
    · iapply (Entails.of_eq (row_out (F := F) d L X I f)); iexact Ho'
  isplitl [Hsx Hsi Hso Hbufs]
  · isplitl [Hsx]; · iexists X; iexact Hsx
    isplitl [Hsi]; · iexists idxRow d I L; iexact Hsi
    isplitl [Hso]; · iexists (fun k : S32768.Idx => tileOut (F := F) X (idxRow d I L) (k 0).val); iexact Hso
    iexact Hbufs
  isplitl [Hs0 Hs1 Hs2 Hsems]
  · isplitl [Hs0]; · iexact Hs0
    isplitl [Hs1]; · iexact Hs1
    isplitl [Hs2]; · iexact Hs2
    iexact Hsems
  iexists (insert (SemLoc.dma cc0_scoped2.sem, (default : HIx 1)) (insert (SemLoc.dma cc0_scoped1.sem, (default : HIx 1))
    (insert (SemLoc.dma cc0_scoped0.sem, (default : HIx 1)) W)))
  isplitr
  · ipureintro; intro p hp
    simp only [Finset.mem_insert] at hp
    rcases hp with rfl | rfl | rfl | hp
    · exact .inr rfl
    · exact .inr rfl
    · exact .inr rfl
    · exact .inl hp
  · iexact HO

end Cert.Proof.KernelIdeal

end
-- ==== Proof.IdealLaunch.lean ====
/-
  The whole program: the host's rearrangements, the launch over the 32 tiles, the host's rearrangements back.
-/
module

public import proofs.«01_k».proof.Defs
public import proofs.«01_k».proof.Proof.IdealTile
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen

open Idealize.ShloMosaic Idealize.ShloMosaic.ValueIdx
open Idealize.ShloMosaic.SparseCore (S V)
open Idealize.ShloMosaic.SparseCore.Cfg (HIx Pay ownBufs ownSems0 ownCells ownRefs mem_ownCells mem_ownRefs)
open Idealize.ShloMosaic.StableHlo (held held_sub_split held_congr after wp_seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The launch's configuration -/

/-- The launch's semaphores are distinct and no scratch of any tile. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

variable (X : (d : Dev nD) → Buf (Elt F) (xLoc d)) (I : (d : Dev nD) → Buf (Elt F) (iLoc d)) (f : (d : Dev nD) → Buf (Elt F) (oLoc d))

/-- What SparseCore `c` holds for the call: its share of the table, its tiles' index rows and output rows. -/
def core (d : Dev nD) (X : Buf (Elt F) (xLoc d)) (I : Buf (Elt F) (iLoc d)) (f : Buf (Elt F) (oLoc d)) (c : Fin 2) : sProp 𝕄 :=
  iprop((xLoc d ↦{Transfers.shareTok fullShare 2 c} X)
    ∗ (bigSep Finset.univ fun i : Fin 16 => iLoc d ↦[iSet (wid c i)]{fullShare} I)
    ∗ (bigSep Finset.univ fun i : Fin 16 => oLoc d ↦[oSet (wid c i)]{fullShare} f))

instance core_storable (d : Dev nD) (X : Buf (Elt F) (xLoc d)) (I : Buf (Elt F) (iLoc d)) (f : Buf (Elt F) (oLoc d)) (c : Fin 2) :
    BI.Storable (upEmb : UEmb _ 𝕄) (core d X I f c) := by
  unfold core; infer_instance
instance given_storable (d : Dev nD) (X : Buf (Elt F) (xLoc d)) (I : Buf (Elt F) (iLoc d)) (f : Buf (Elt F) (oLoc d)) (c : Fin 2) (i : Fin 16) :
    BI.Storable (upEmb : UEmb _ 𝕄) (given d X I f c i) := by
  unfold given; infer_instance

/-- What passes at the call: the arrays at the launch's contents going out, the output at its values coming back. -/
def P [FloatOps F] : (K (F := F)).Pay (nD := nD) (Val := Elt F) (Name := ℕ) (U := UU) where
  st := fun q d c => match q with | 0 => core d (X d) (I d) (f d) c
  dn := fun q d c => match q with | 0 => core d (X d) (I d) (outW (F := F) (X d) (I d)) c
  go := fun q d c i => match q with | 0 => given d (X d) (I d) (f d) c i
  td := fun q d c i => match q with | 0 => given d (X d) (I d) (outW (F := F) (X d) (I d)) c i
  x := fun _ _ => iprop(emp)

instance P_storable [FloatOps F] : (P X I f).IsStorable where
  st q d c := match q with | 0 => core_storable d (X d) (I d) (f d) c
  dn q d c := match q with | 0 => core_storable d (X d) (I d) (outW (F := F) (X d) (I d)) c
  go q d c i := match q with | 0 => given_storable d (X d) (I d) (f d) c i
  td q d c i := match q with | 0 => given_storable d (X d) (I d) (outW (F := F) (X d) (I d)) c i

/-! ## A tile's obligation -/

/-- The grid point of SparseCore `c`, subcore `s`. -/
def point (c : Fin (grid0.bound 0)) (s : Fin (grid0.bound 1)) : grid0.Coords :=
  fun | 0 => c | 1 => s | ⟨_ + 2, h⟩ => absurd h (Nat.not_lt.2 (Nat.le_add_left _ _))

/-- What a vector subcore runs: the kernel at its grid point. -/
theorem defs₀_vector [FloatOps F] (c : Fin τ.nSC) (s : Fin τ.nSub) :
    defs₀ (F := F) (.scVector c s) 0 ()
      = SparseCore.onTile hcore0 hsub0 (fun c s => cc0__sc_body (point c s)
          xV (Memref.isWhole_whole _) iV (Memref.isWhole_whole _) oV (Memref.isWhole_whole _)
          sX (Memref.isWhole_whole _) sI (Memref.isWhole_whole _) sO (Memref.isWhole_whole _) cc0_scoped0 cc0_scoped1 cc0_scoped2) ⟨⟩ c s := rfl

/-- The waits a tile leaves are of the transfers' own kind, which the launch allows beside its own. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

/-- Every tile runs the kernel from what it is given to what it gives back. -/
theorem tileObl [FloatOps F] (hI : ∀ d k, (I d k : BitVec 32).toNat < 2048) : (K (F := F)).TileObl (D (F := F)) 𝒱 (P X I f) v₀ 0 := by
  intro d c i O W hO _ _
  simp only [show (P X I f).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body facts d (point ⟨_, hc.1⟩ ⟨_, hc.2⟩) (X d) (I d) (f d) (hI d) O W hO).trans (wp_mono frame _ _ fun _ => waits_weaken)

/-- The tiles' pieces of a SparseCore's holdings. -/
theorem core_tiles (d : Dev nD) (X : Buf (Elt F) (xLoc d)) (I : Buf (Elt F) (iLoc d)) (f : Buf (Elt F) (oLoc d)) (c : Fin 2) :
    (bigSep Finset.univ fun i : Fin 16 => given d X I f c i : sProp 𝕄)
      = iprop((bigSep Finset.univ fun i : Fin 16 => xLoc d ↦{xShare c i} X)
          ∗ (bigSep Finset.univ fun i : Fin 16 => iLoc d ↦[iSet (wid c i)]{fullShare} I)
          ∗ (bigSep Finset.univ fun i : Fin 16 => oLoc d ↦[oSet (wid c i)]{fullShare} f)) := by
  unfold given
  rw [bigSep_sep', bigSep_sep']

/-- A SparseCore's holdings are its tiles' pieces, and the pieces at the new output are its holdings at the new output. -/
theorem core_split (d : Dev nD) (X : Buf (Elt F) (xLoc d)) (I : Buf (Elt F) (iLoc d)) (f g : Buf (Elt F) (oLoc d)) (c : Fin 2) :
    (core d X I f c : sProp 𝕄) ⊢ iprop((bigSep Finset.univ fun i : Fin 16 => given d X I f c i)
      ∗ ((bigSep Finset.univ fun i : Fin 16 => given d X I g c i) -∗ core d X I g c)) := by
  rw [core_tiles, core_tiles]
  unfold core
  iintro ⟨Hx, Hi, Ho⟩
  ihave Hx' := (Transfers.pointsTo_toks_split (Transfers.shareTok fullShare 2 c) 16) $$ Hx
  icases Hx' with ⟨Hdrop, Hx⟩
  isplitl [Hx Hi Ho]
  · isplitl [Hx]; · iexact Hx
    isplitl [Hi]; · iexact Hi
    iexact Ho
  iintro ⟨Hx, Hi, Ho⟩
  isplitl [Hdrop Hx]
  · iapply (Transfers.pointsTo_toks_join (Transfers.shareTok fullShare 2 c) 16)
    isplitl [Hdrop]; · iexact Hdrop
    iexact Hx
  isplitl [Hi]; · iexact Hi
  iexact Ho

/-- The launch's split of the call's arrays over a SparseCore's tiles. -/
theorem vecSplit [FloatOps F] : (K (F := F)).VecSplit' (P X I f) 0 := by
  intro d c
  show (core d (X d) (I d) (f d) c : sProp 𝕄) ⊢ |={Set.univ}=> iprop(
      (bigSep Finset.univ fun i : Fin 16 => given d (X d) (I d) (f d) c i)
      ∗ ((bigSep Finset.univ fun i : Fin 16 => given d (X d) (I d) (outW (F := F) (X d) (I d)) c i)
          -∗ core d (X d) (I d) (outW (F := F) (X d) (I d)) c))
  iintro H
  imodintro
  iapply (core_split d (X d) (I d) (f d) (outW (F := F) (X d) (I d)) c)
  iexact H

/-! ## The whole arrays and the SparseCores' holdings -/

/-- The 32 tiles. -/
abbrev tile (t : Fin 2 × Fin 16) : Fin 32 := wid t.1 t.2

/-- Two tiles compute two rows. -/
theorem tile_inj {t t' : Fin 2 × Fin 16} (h : t ≠ t') : tile t ≠ tile t' := by
  intro e
  have e' : 2 * t.2.val + t.1.val = 2 * t'.2.val + t'.1.val := congrArg Fin.val e
  exact h (Prod.ext (Fin.ext (by omega)) (Fin.ext (by omega)))
/-- Every row is a tile's. -/
theorem tile_surj (r : Fin 32) : ∃ t, tile t = r :=
  ⟨(⟨r.val % 2, by omega⟩, ⟨r.val / 2, by omega⟩), Fin.ext (show 2 * (r.val / 2) + r.val % 2 = r.val by omega)⟩

/-- The index rows are the tiles' rows. -/
theorem index_rows (d : Dev nD) (I : Buf (Elt F) (iLoc d)) :
    (iLoc d ↦{fullShare} I : sProp 𝕄) = bigSep Finset.univ fun c : Fin 2 => bigSep Finset.univ fun i : Fin 16 => iLoc d ↦[iSet (wid c i)]{fullShare} I := by
  rw [← SparseCore.bigSep_product Finset.univ Finset.univ (fun t : Fin 2 × Fin 16 => (iLoc d ↦[iSet (tile t)]{fullShare} I : sProp 𝕄)),
    ← pointsTo_biUnion (ℓ := iLoc d) (Finset.univ ×ˢ Finset.univ) (fun t => iSet (tile t))
      (fun t _ t' _ h => Finset.disjoint_left.mpr fun k hk hk' => tile_inj h ((mem_iSet.mp hk).symm.trans (mem_iSet.mp hk'))),
    show (Finset.univ ×ˢ Finset.univ : Finset (Fin 2 × Fin 16)).biUnion (fun t => iSet (tile t)) = Finset.univ from
      Finset.eq_univ_iff_forall.mpr fun k => by
        obtain ⟨t, ht⟩ := tile_surj (k 0)
        exact Finset.mem_biUnion.mpr ⟨t, Finset.mem_product.mpr ⟨Finset.mem_univ _, Finset.mem_univ _⟩, mem_iSet.mpr ht.symm⟩]

/-- The output rows are the tiles' rows. -/
theorem output_rows (d : Dev nD) (f : Buf (Elt F) (oLoc d)) :
    (oLoc d ↦{fullShare} f : sProp 𝕄) = bigSep Finset.univ fun c : Fin 2 => bigSep Finset.univ fun i : Fin 16 => oLoc d ↦[oSet (wid c i)]{fullShare} f := by
  rw [← SparseCore.bigSep_product Finset.univ Finset.univ (fun t : Fin 2 × Fin 16 => (oLoc d ↦[oSet (tile t)]{fullShare} f : sProp 𝕄)),
    ← pointsTo_biUnion (ℓ := oLoc d) (Finset.univ ×ˢ Finset.univ) (fun t => oSet (tile t))
      (fun t _ t' _ h => Finset.disjoint_left.mpr fun k hk hk' => tile_inj h ((mem_oSet.mp hk).symm.trans (mem_oSet.mp hk'))),
    show (Finset.univ ×ˢ Finset.univ : Finset (Fin 2 × Fin 16)).biUnion (fun t => oSet (tile t)) = Finset.univ from
      Finset.eq_univ_iff_forall.mpr fun k => by
        obtain ⟨t, ht⟩ := tile_surj (k 0)
        exact Finset.mem_biUnion.mpr ⟨t, Finset.mem_product.mpr ⟨Finset.mem_univ _, Finset.mem_univ _⟩, mem_oSet.mpr ht.symm⟩]

/-- The two SparseCores' holdings, array by array. -/
theorem cores_eq (d : Dev nD) (X : Buf (Elt F) (xLoc d)) (I : Buf (Elt F) (iLoc d)) (f : Buf (Elt F) (oLoc d)) :
    (bigSep Finset.univ fun c : Fin 2 => core d X I f c : sProp 𝕄)
      = iprop((bigSep Finset.univ fun c : Fin 2 => xLoc d ↦{Transfers.shareTok fullShare 2 c} X)
          ∗ (iLoc d ↦{fullShare} I) ∗ (oLoc d ↦{fullShare} f)) := by
  rw [index_rows, output_rows]
  unfold core
  rw [bigSep_sep', bigSep_sep']

/-! ## The launch's ghost state -/

/-- The launch's element: the handshakes' rounds, no transfer under way. -/
def u₀ : UU := (initOf (K (F := F)).hsCells (K (F := F)).hsToks, 1)

/-- Nothing, many times, is nothing. -/
theorem bigSep_nothing {J : Type} (s : Finset J) : (bigSep s fun _ => iprop(emp)) = (iprop(emp) : sProp 𝕄) := bigSep_emp_const s

/-- The launch's element pays for the handshakes; nothing else is dealt. -/
theorem hu₀ [FloatOps F] : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X I f).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-! ## The host program -/

variable (m : (ℓ : Loc nD τ sig) → Buf (Elt F) ℓ) (ρ : Dev nD → PrngReg)

/-- The host's operations before the call. -/
abbrev before : List (HloOp τ sig (Elt F)) :=
  [StableHlo.unary main_arg1 main_v0 ((transpose S16x8x3x2048 [0, 2, 3, 1] · transposes_S16x2048x8x3_S16x8x3x2048_0_2_3_1) : (⟨S16x2048x8x3, .i32⟩ : BufTy).Contents (Elt F) → (⟨S16x8x3x2048, .i32⟩ : BufTy).Contents (Elt F)),
   StableHlo.reshape main_v0 main_v1 (rfl : (.i32 : EltTy) = .i32) shapeCasts_S16x8x3x2048_S16x8x3x32x64,
   StableHlo.unary main_v1 main_v2 ((transpose S32x16x8x3x64 [3, 0, 1, 2, 4] · transposes_S16x8x3x32x64_S32x16x8x3x64_3_0_1_2_4) : (⟨S16x8x3x32x64, .i32⟩ : BufTy).Contents (Elt F) → (⟨S32x16x8x3x64, .i32⟩ : BufTy).Contents (Elt F)),
   StableHlo.reshape main_v2 main_v3 (rfl : (.i32 : EltTy) = .i32) shapeCasts_S32x16x8x3x64_S32x24576,
   StableHlo.reshape main_arg0 main_v4 (rfl : (.f32 : EltTy) = .f32) shapeCasts_S32x2048_S65536]

/-- The host's operations after the call. -/
abbrev later : List (HloOp τ sig (Elt F)) :=
  [StableHlo.reshape main_v5 main_v6 (rfl : (.f32 : EltTy) = .f32) shapeCasts_S32x32768_S32x16x32x64,
   StableHlo.unary main_v6 main_v7 ((transpose S16x32x32x64 [1, 2, 0, 3] · transposes_S32x16x32x64_S16x32x32x64_1_2_0_3) : (⟨S32x16x32x64, .f32⟩ : BufTy).Contents (Elt F) → (⟨S16x32x32x64, .f32⟩ : BufTy).Contents (Elt F)),
   StableHlo.reshape main_v7 main_v8 (rfl : (.f32 : EltTy) = .f32) shapeCasts_S16x32x32x64_S16x32x2048]

/-- `@main` is the first line, the call, the second line. -/
theorem main_eq [FloatOps F] (d : Dev nD) :
    main (F := F) d = (StableHlo.seq before >>= fun _ => sc.run d 0 >>= fun _ => StableHlo.seq later >>= fun _ => pure ⟨⟩) := rfl

/-- A tensor of `@main` as a device buffer. -/
abbrev dr (b : Ref sig .tc) : DevRef τ sig := Proc.devRef .tc b

/-- The tensors of `@main`. -/
abbrev tensors : Finset (Ref sig .tc) :=
  {main_arg0, main_arg1, main_v0, main_v1, main_v2, main_v3, main_v4, main_v5, main_v6, main_v7, main_v8}
/-- The same as device buffers. -/
abbrev bufs : Finset (DevRef τ sig) := tensors.map ⟨Proc.devRef (sig := sig) (.tc : Proc τ), Proc.devRef_injective _⟩

/-- The first line works on the tensors of `@main`. -/
theorem before_bufs : ∀ op ∈ (before : List (HloOp τ sig (Elt F))), op.bufs ⊆ bufs := by
  intro op h
  simp only [List.mem_cons, List.not_mem_nil, or_false] at h
  rcases h with rfl | rfl | rfl | rfl | rfl
  · exact show ({dr main_arg1, dr main_v0} : Finset (DevRef τ sig)) ⊆ bufs by decide
  · exact show ({dr main_v0, dr main_v1} : Finset (DevRef τ sig)) ⊆ bufs by decide
  · exact show ({dr main_v1, dr main_v2} : Finset (DevRef τ sig)) ⊆ bufs by decide
  · exact show ({dr main_v2, dr main_v3} : Finset (DevRef τ sig)) ⊆ bufs by decide
  · exact show ({dr main_arg0, dr main_v4} : Finset (DevRef τ sig)) ⊆ bufs by decide
/-- Its values are all determined. -/
theorem before_fresh : ∀ op ∈ (before : List (HloOp τ sig (Elt F))), op.fresh = ∅ := by
  intro op h
  simp only [List.mem_cons, List.not_mem_nil, or_false] at h
  rcases h with rfl | rfl | rfl | rfl | rfl <;> rfl
/-- The second line works on the tensors of `@main`. -/
theorem later_bufs : ∀ op ∈ (later : List (HloOp τ sig (Elt F))), op.bufs ⊆ bufs := by
  intro op h
  simp only [List.mem_cons, List.not_mem_nil, or_false] at h
  rcases h with rfl | rfl | rfl
  · exact show ({dr main_v5, dr main_v6} : Finset (DevRef τ sig)) ⊆ bufs by decide
  · exact show ({dr main_v6, dr main_v7} : Finset (DevRef τ sig)) ⊆ bufs by decide
  · exact show ({dr main_v7, dr main_v8} : Finset (DevRef τ sig)) ⊆ bufs by decide
/-- Its values are all determined. -/
theorem later_fresh : ∀ op ∈ (later : List (HloOp τ sig (Elt F))), op.fresh = ∅ := by
  intro op h
  simp only [List.mem_cons, List.not_mem_nil, or_false] at h
  rcases h with rfl | rfl | rfl <;> rfl

/-- The launch's valuation, -/
def V0 (d : Dev nD) : Valuation τ sig (Elt F) := fun b => m (d, b)
/-- when the call starts, -/
def V1 (d : Dev nD) : Valuation τ sig (Elt F) := after before (V0 m d)
/-- when it is over. -/
def V2 [FloatOps F] (d : Dev nD) : Valuation τ sig (Elt F) :=
  Function.update (V1 m d) (dr main_v5) (outW (F := F) (V1 m d (dr main_v4)) (V1 m d (dr main_v3)))
/-- At the end. -/
def V3 [FloatOps F] (d : Dev nD) : Valuation τ sig (Elt F) := after later (V2 m d)

/-- The TensorCore's unscoped buffers are the tensors of `@main`. -/
theorem unscoped_held (d : Dev nD) : (unscopedBufs d (fun b => m ((SparseCore.T d).loc b)) : sProp 𝕄) = held (SparseCore.T d) bufs (V0 m d) := by
  unfold unscopedBufs held
  rw [show (Finset.univ.filter fun b : Ref sig .tc => ¬ b.isScoped) = tensors by decide, bigSep_map]
  rfl

/-- The tensors of the call out of them all. -/
theorem held_call (d : Dev nD) (W : Valuation τ sig (Elt F)) :
    (held (SparseCore.T d) bufs W : sProp 𝕄) = iprop(((xLoc d ↦{fullShare} W (dr main_v4)) ∗ (iLoc d ↦{fullShare} W (dr main_v3)) ∗ (oLoc d ↦{fullShare} W (dr main_v5)))
      ∗ held (SparseCore.T d) (bufs \ {dr main_v4, dr main_v3, dr main_v5}) W) := by
  rw [held_sub_split (SparseCore.T d) (T := {dr main_v4, dr main_v3, dr main_v5}) (S := bufs) (by decide)]
  congr 1
  unfold held
  rw [SparseCore.bigSep_insert' (by decide), SparseCore.bigSep_insert' (by decide), bigSep_singleton]

/-- The arguments and the result out of them all. -/
theorem held_end (d : Dev nD) (W : Valuation τ sig (Elt F)) :
    (held (SparseCore.T d) bufs W : sProp 𝕄) = iprop((((SparseCore.T d).loc main_arg0 ↦{fullShare} W (dr main_arg0)) ∗ ((SparseCore.T d).loc main_arg1 ↦{fullShare} W (dr main_arg1))
        ∗ ((SparseCore.T d).loc main_v8 ↦{fullShare} W (dr main_v8)))
      ∗ held (SparseCore.T d) (bufs \ {dr main_arg0, dr main_arg1, dr main_v8}) W) := by
  rw [held_sub_split (SparseCore.T d) (T := {dr main_arg0, dr main_arg1, dr main_v8}) (S := bufs) (by decide)]
  congr 1
  unfold held
  rw [SparseCore.bigSep_insert' (by decide), SparseCore.bigSep_insert' (by decide), bigSep_singleton]

/-- After the call the output is at its values and the rest is as it was. -/
theorem held_after [FloatOps F] (d : Dev nD) :
    (held (SparseCore.T d) bufs (V2 m d) : sProp 𝕄)
      = iprop(((xLoc d ↦{fullShare} V1 m d (dr main_v4)) ∗ (iLoc d ↦{fullShare} V1 m d (dr main_v3))
          ∗ (oLoc d ↦{fullShare} outW (F := F) (V1 m d (dr main_v4)) (V1 m d (dr main_v3))))
        ∗ held (SparseCore.T d) (bufs \ {dr main_v4, dr main_v3, dr main_v5}) (V1 m d)) := by
  rw [held_call, held_congr (SparseCore.T d) (S := bufs \ {dr main_v4, dr main_v3, dr main_v5}) (V := V2 m d) (V' := V1 m d)]
  · unfold V2
    rw [Function.update_self, Function.update_of_ne (show dr main_v4 ≠ dr main_v5 by decide),
      Function.update_of_ne (show dr main_v3 ≠ dr main_v5 by decide)]
  · intro b hb
    refine Function.update_of_ne (fun e => (Finset.mem_sdiff.mp hb).2 ?_) _ _
    rw [e]; decide

/-- What `@main` ends with: the arguments and the result. -/
abbrev FIN [FloatOps F] (d : Dev nD) : sProp 𝕄 :=
  iprop(((SparseCore.T d).loc main_arg0 ↦{fullShare} V3 m d (dr main_arg0)) ∗ ((SparseCore.T d).loc main_arg1 ↦{fullShare} V3 m d (dr main_arg1))
    ∗ ((SparseCore.T d).loc main_v8 ↦{fullShare} V3 m d (dr main_v8)))

/-- What the call of this launch passes. -/
abbrev PM [FloatOps F] : (K (F := F)).Pay (nD := nD) (Val := Elt F) (Name := ℕ) (U := UU) :=
  P (fun d => V1 m d (dr main_v4)) (fun d => V1 m d (dr main_v3)) (fun d => V1 m d (dr main_v5))

/-- What the call takes for the two SparseCores. -/
theorem call_takes [FloatOps F] (d : Dev nD) :
    (bigSep Finset.univ fun c : Fin ((K (F := F)).nCore 0) => (PM m).st 0 d c)
      = iprop((bigSep Finset.univ fun c : Fin 2 => xLoc d ↦{Transfers.shareTok fullShare 2 c} V1 m d (dr main_v4))
          ∗ (iLoc d ↦{fullShare} V1 m d (dr main_v3)) ∗ (oLoc d ↦{fullShare} V1 m d (dr main_v5))) :=
  cores_eq d _ _ _
/-- What it hands back. -/
theorem call_returns [FloatOps F] (d : Dev nD) :
    (bigSep Finset.univ fun c : Fin ((K (F := F)).nCore 0) => (PM m).dn 0 d c)
      = iprop((bigSep Finset.univ fun c : Fin 2 => xLoc d ↦{Transfers.shareTok fullShare 2 c} V1 m d (dr main_v4))
          ∗ (iLoc d ↦{fullShare} V1 m d (dr main_v3)) ∗ (oLoc d ↦{fullShare} outW (F := F) (V1 m d (dr main_v4)) (V1 m d (dr main_v3)))) :=
  cores_eq d _ _ _

set_option backward.isDefEq.respectTransparency.types false in
/-- `@main` runs from the launch's buffers to the valuation `V3`. -/
theorem hmain [FloatOps F] (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq (defs := (K (F := F)).defs (D (F := F))) 𝒱 none Set.univ d bufs
    (fun _ => sc.run d 0 >>= fun _ => StableHlo.seq later >>= fun _ => pure ⟨⟩) before before_bufs before_fresh (V0 m d)) $$ [Hb Hheld]
  · isplitl [Hb]; · iexact Hb
    iexact Hheld
  iintro ⟨Hb, Hheld⟩
  ihave Hh := (Entails.of_eq (held_call d (after before (V0 m d)))) $$ Hheld
  icases Hh with ⟨⟨Hx, Hi, Ho⟩, Hrest⟩
  ihave Hx' := (Transfers.pointsTo_toks_split fullShare 2) $$ Hx
  icases Hx' with ⟨Hdrop, Hx⟩
  rw [wp_bind]
  iapply ((K (F := F)).wp_run (D (F := F)) 𝒱 (EH := EH) (P := PM m) κ d 0) $$ [Hst Hx Hi Ho Hb Hts Hdrop Hrest]
  isplitr; · iexact Hctx
  isplitl [Hst]; · iexact Hst
  isplitl [Hx Hi Ho]
  · iapply (Entails.of_eq (call_takes m d).symm)
    isplitl [Hx]; · iexact Hx
    isplitl [Hi]; · iexact Hi
    iexact Ho
  iintro ⟨Hst, Hdn⟩
  ihave Hdn' := (Entails.of_eq (call_returns m d)) $$ Hdn
  icases Hdn' with ⟨Hx, Hi, Ho⟩
  ihave Hx' := (Transfers.pointsTo_toks_join fullShare 2) $$ [Hdrop Hx]
  · isplitl [Hdrop]; · iexact Hdrop
    iexact Hx
  iapply (wp_seq (defs := (K (F := F)).defs (D (F := F))) 𝒱 none Set.univ d bufs
    (fun _ => pure ⟨⟩) later later_bufs later_fresh (V2 m d)) $$ [Hb Hx' Hi Ho Hrest]
  · isplitl [Hb]; · iexact Hb
    iapply (Entails.of_eq (held_after m d).symm)
    isplitr [Hrest]
    · isplitl [Hx']; · iexact Hx'
      isplitl [Hi]; · iexact Hi
      iexact Ho
    iexact Hrest
  iintro ⟨Hb, Hheld⟩
  ihave Hh := (Entails.of_eq (held_end d (after later (V2 m d)))) $$ Hheld
  icases Hh with ⟨Hfin, -⟩
  rw [wp_pure]
  imodintro
  isplitl [Hst]; · iexact Hst
  isplitl [Hfin]; · iexact Hfin
  isplitl [Hb] <;> iassumption

/-! ## The values at the end -/

/-- The index rows the host makes of the indices. -/
def idxRows (a : S16x2048x8x3.Idx → BitVec 32) : S32x24576.Idx → BitVec 32 :=
  shapeCast S32x24576 (transpose S32x16x8x3x64 [3, 0, 1, 2, 4]
    (shapeCast S16x8x3x32x64 (transpose S16x8x3x2048 [0, 2, 3, 1] a transposes_S16x2048x8x3_S16x8x3x2048_0_2_3_1) shapeCasts_S16x8x3x2048_S16x8x3x32x64)
    transposes_S16x8x3x32x64_S32x16x8x3x64_3_0_1_2_4) shapeCasts_S32x16x8x3x64_S32x24576
/-- The table the host makes of the valuations. -/
def tableOf (a : S32x2048.Idx → F .f32) : S65536.Idx → F .f32 := shapeCast S65536 a shapeCasts_S32x2048_S65536
/-- The result the host makes of the output rows. -/
def resultOf (o : S32x32768.Idx → F .f32) : S16x32x2048.Idx → F .f32 :=
  shapeCast S16x32x2048 (transpose S16x32x32x64 [1, 2, 0, 3] (shapeCast S32x16x32x64 o shapeCasts_S32x32768_S32x16x32x64)
    transposes_S32x16x32x64_S16x32x32x64_1_2_0_3) shapeCasts_S16x32x32x64_S16x32x2048
/-- The program's result as a function of its arguments. -/
def resVal [FloatOps F] (x : S32x2048.Idx → F .f32) (a : S16x2048x8x3.Idx → BitVec 32) : S16x32x2048.Idx → F .f32 :=
  resultOf (outW (F := F) (tableOf x) (idxRows a))

/-- The index rows when the call starts. -/
theorem V1_v3 (d : Dev nD) : V1 m d (dr main_v3) = idxRows (m ((SparseCore.T d).loc main_arg1)) := by
  unfold V1 before; after_results_simp; rfl
/-- The table when the call starts. -/
theorem V1_v4 (d : Dev nD) : V1 m d (dr main_v4) = tableOf (F := F) (m ((SparseCore.T d).loc main_arg0)) := by
  unfold V1 before; after_results_simp; rfl
/-- The result at the end. -/
theorem V3_v8 [FloatOps F] (d : Dev nD) : V3 m d (dr main_v8) = resVal (F := F) (m ((SparseCore.T d).loc main_arg0)) (m ((SparseCore.T d).loc main_arg1)) := by
  have h : V3 m d (dr main_v8) = resultOf (F := F) (V2 m d (dr main_v5)) := by
    unfold V3 later; after_results_simp; rfl
  rw [h]
  unfold V2
  rw [Function.update_self, V1_v3, V1_v4]
  rfl
/-- The arguments are as they were. -/
theorem V3_arg0 [FloatOps F] (d : Dev nD) : V3 m d (dr main_arg0) = m ((SparseCore.T d).loc main_arg0) := by
  have h : V3 m d (dr main_arg0) = V2 m d (dr main_arg0) := by unfold V3 later; after_results_simp
  have h' : V1 m d (dr main_arg0) = V0 m d (dr main_arg0) := by unfold V1 before; after_results_simp
  rw [h]; unfold V2
  rw [Function.update_of_ne (show dr main_arg0 ≠ dr main_v5 by decide), h']
  rfl
/-- The arguments are as they were. -/
theorem V3_arg1 [FloatOps F] (d : Dev nD) : V3 m d (dr main_arg1) = m ((SparseCore.T d).loc main_arg1) := by
  have h : V3 m d (dr main_arg1) = V2 m d (dr main_arg1) := by unfold V3 later; after_results_simp
  have h' : V1 m d (dr main_arg1) = V0 m d (dr main_arg1) := by unfold V1 before; after_results_simp
  rw [h]; unfold V2
  rw [Function.update_of_ne (show dr main_arg1 ≠ dr main_v5 by decide), h']
  rfl

/-- Every word of the index rows is a word of the indices. -/
theorem idxRows_mem (a : S16x2048x8x3.Idx → BitVec 32) (k : S32x24576.Idx) : ∃ j, idxRows a k = a j := ⟨_, rfl⟩

/-! ## The program's run -/

/-- What is read off the memory at the end. -/
def fq [FloatOps F] (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v8) = resVal (F := F) (m ((SparseCore.T d).loc main_arg0)) (m ((SparseCore.T d).loc main_arg1))

/-- The memory agrees with what `@main` ends with. -/
theorem hfin [FloatOps F] (d : Dev nD) (s' : Phys nD τ sig (Elt F)) : iprop(FIN m d ∗ SI s') ⊢ (⌜fq m d s'⌝ : sProp 𝕄) := by
  iintro ⟨⟨H0, H1, H8⟩, HSI⟩
  ihave H := (persistent_entails_right (SI_pointsTo_agree (st := s') (ℓ := (SparseCore.T d).loc main_arg0) (I := Finset.univ) (q := fullShare) (f := V3 m d (dr main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V3 m d (dr main_arg1)))) $$ [HSI H1]
  · isplitl [HSI] <;> iassumption
  icases H with ⟨%h1, HSI, -⟩
  ihave H := (SI_pointsTo_agree (st := s') (ℓ := (SparseCore.T d).loc main_v8) (I := Finset.univ) (q := fullShare) (f := V3 m d (dr main_v8))) $$ [HSI H8]
  · isplitl [HSI] <;> iassumption
  icases H with %h8
  ipureintro
  exact ⟨(funext fun i => h0 i (Finset.mem_univ i)).trans (V3_arg0 m d), (funext fun i => h1 i (Finset.mem_univ i)).trans (V3_arg1 m d),
    (funext fun i => h8 i (Finset.mem_univ i)).trans (V3_v8 m d)⟩

/-- The program ends with its arguments unchanged, its result at `resVal` and every semaphore at zero. -/
theorem run_main [FloatOps F] [∀ e, Nonempty (Elt F e)] (hI : ∀ (d : Dev nD) j, (m ((SparseCore.T d).loc main_arg1) j : BitVec 32).toNat < 2048) :
    θ_run (Cert.KernelIdeal.defs (F := F)) (Cert.KernelIdeal.threads (F := F)) ⟨m, fun _ => 0, ρ⟩
      (fun r => (∀ d, r.2.mem ((SparseCore.T d).loc main_arg0) = m ((SparseCore.T d).loc main_arg0) ∧ r.2.mem ((SparseCore.T d).loc main_arg1) = m ((SparseCore.T d).loc main_arg1)
        ∧ r.2.mem ((SparseCore.T d).loc main_v8) = resVal (F := F) (m ((SparseCore.T d).loc main_arg0)) (m ((SparseCore.T d).loc main_arg1))) ∧ r.2.sem = fun _ => 0) := by
  have hI' : ∀ d k, (V1 m d (dr main_v3) k : BitVec 32).toNat < 2048 := by
    intro d k
    rw [V1_v3]
    obtain ⟨j, hj⟩ := idxRows_mem (m ((SparseCore.T d).loc main_arg1)) k
    rw [hj]
    exact hI d j
  exact SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ hI')
    (fun q _ => match q with | 0 => SparseCore.Cfg.VecSplit.of_plain (vecSplit _ _ _))
    m ρ main (fun _ => iprop(emp)) (FIN m) (u₀ (F := F)) (sep_elim_left.trans (hu₀ _ _ _)) (hmain m ρ) (fq m) (hfin m) _ (fun _ h hz => ⟨h, hz⟩)

end Cert.Proof.KernelIdeal

end
-- ==== Proof.KernelVal.lean ====
/-
  The kernel's result at an index: which word of which tile's row it is, and the valuations that word is computed from.
-/
module

public import proofs.«01_k».proof.Proof.IdealLaunch
public import Idealize.ShloMosaic.Lib.Pipeline.Value
public import Idealize.ShloMosaic.Lib.ValueIdxRank6

@[expose] public section

noncomputable section

namespace Cert.Proof.KernelIdeal

open Cert.KernelIdeal Cert.KernelIdeal.Gen
open Idealize.ShloMosaic Idealize.ShloMosaic.ValueIdx

variable {F : FTy → Type} [FloatOps F]

/-- The result at rule `c`, batch row `b`, ground atom `64 w + q` is word `2048 c + 64 b + q` of tile `w`'s row. -/
theorem resultOf_apply (o : S32x32768.Idx → F .f32) (c : Fin 16) (b : Fin 32) (w : Fin 32) (q : Fin 64) (g : Fin 2048)
    (n : Fin 32768) (hg : g.val = 64 * w.val + q.val) (hn : n.val = 2048 * c.val + 64 * b.val + q.val) :
    resultOf o (ix3 c b g) = o (ix2 w n) := by
  unfold resultOf
  rw [shapeCast_apply _ _ (ix3 c b g) (ix4 c b w q) (by
    rw [Shape.rowMajor_val_four, Shape.rowMajor_val_three]
    show ((c.val * 32 + b.val) * 32 + w.val) * 64 + q.val = (c.val * 32 + b.val) * 2048 + g.val
    omega),
    transpose_apply _ _ _ (ix4 c b w q) (ix4 w c b q) (fun p => by
      match p with
      | ⟨0, _⟩ => rfl
      | ⟨1, _⟩ => rfl
      | ⟨2, _⟩ => rfl
      | ⟨3, _⟩ => rfl),
    shapeCast_apply _ _ (ix4 w c b q) (ix2 w n) (by
    rw [Shape.rowMajor_val_four, Shape.rowMajor_val_two]
    show w.val * 32768 + n.val = ((w.val * 16 + c.val) * 32 + b.val) * 64 + q.val
    omega)]

/-- Word `1536 c + 64 (3 s + l) + q` of tile `w`'s index row is atom `l` of substitution `s` of rule `c` and ground atom
    `64 w + q`. -/
theorem idxRows_apply (a : S16x2048x8x3.Idx → BitVec 32) (c : Fin 16) (s : Fin 8) (l : Fin 3) (w : Fin 32) (q : Fin 64)
    (g : Fin 2048) (k : Fin 24576) (hg : g.val = 64 * w.val + q.val)
    (hk : k.val = 1536 * c.val + 64 * (3 * s.val + l.val) + q.val) :
    idxRows a (ix2 w k) = a (ix4 c g s l) := by
  unfold idxRows
  rw [shapeCast_apply _ _ (ix2 w k) (ix5 w c s l q) (by
    rw [Shape.rowMajor_val_five, Shape.rowMajor_val_two]
    show (((w.val * 16 + c.val) * 8 + s.val) * 3 + l.val) * 64 + q.val = w.val * 24576 + k.val
    omega),
    transpose_apply _ _ _ (ix5 w c s l q) (ix5 c s l w q) (fun p => by
      match p with
      | ⟨0, _⟩ => rfl
      | ⟨1, _⟩ => rfl
      | ⟨2, _⟩ => rfl
      | ⟨3, _⟩ => rfl
      | ⟨4, _⟩ => rfl),
    shapeCast_apply _ _ (ix5 c s l w q) (ix4 c s l g) (by
    rw [Shape.rowMajor_val_five, Shape.rowMajor_val_four]
    show ((c.val * 8 + s.val) * 3 + l.val) * 2048 + g.val = (((c.val * 8 + s.val) * 3 + l.val) * 32 + w.val) * 64 + q.val
    omega),
    transpose_apply _ _ _ (ix4 c s l g) (ix4 c g s l) (fun p => by
      match p with
      | ⟨0, _⟩ => rfl
      | ⟨1, _⟩ => rfl
      | ⟨2, _⟩ => rfl
      | ⟨3, _⟩ => rfl)]

/-- Word `v + 2048 b` of the flat table is valuation `v` of batch row `b`. -/
theorem tableOf_apply (x : S32x2048.Idx → F .f32) (b : Fin 32) (v : Fin 2048) (k : ℕ) (hk : k = v.val + 2048 * b.val) :
    tableOf x (at1 65535 k) = x (ix2 b v) := by
  unfold tableOf
  rw [shapeCast_apply _ _ (at1 65535 k) (ix2 b v) (by
    rw [Shape.rowMajor_val_two, Shape.rowMajor_val_one, at1_val (by omega)]
    show b.val * 2048 + v.val = k
    omega)]

/-- Literal `3 s + l` of the word for rule `c`, batch row `b` and ground atom `g` is the valuation that atom `l` of
    substitution `s` names. -/
theorem lit_apply (x : S32x2048.Idx → F .f32) (a : S16x2048x8x3.Idx → BitVec 32) (c : Fin 16) (b : Fin 32) (w : Fin 32)
    (q : Fin 64) (g : Fin 2048) (n : ℕ) (hg : g.val = 64 * w.val + q.val) (hn : n = 2048 * c.val + 64 * b.val + q.val)
    (s : Fin 8) (l : Fin 3) (r : ℕ) (hr : r = 3 * s.val + l.val) (v : Fin 2048) (hv : (a (ix4 c g s l)).toNat = v.val) :
    lit (tableOf x) (fun k : (⟨1, ![24575 + 1]⟩ : Shape).Idx => idxRows a (ix2 w (k 0))) n r = x (ix2 b v) := by
  unfold lit
  have hk : 1536 * (n / 2048) + n % 64 + 64 * r < 24575 + 1 := by omega
  have e : idxRows a (ix2 w (at1 24575 (1536 * (n / 2048) + n % 64 + 64 * r) 0)) = a (ix4 c g s l) :=
    idxRows_apply a c s l w q g _ hg (by
      refine (at1_val hk 0).trans ?_
      omega)
  refine tableOf_apply x b v _ ?_
  show (idxRows a (ix2 w (at1 24575 (1536 * (n / 2048) + n % 64 + 64 * r) 0))).toNat + 2048 * (n / 64 % 32) = _
  rw [e, hv]
  omega

end Cert.Proof.KernelIdeal

end
-- ==== Proof.Range.lean ====
/-
  What the precondition says of an atom index, as a word: its value as a natural number is below 2048. And what a word in
  that range does in the comparisons the reference's gather makes.
-/
module

public import proofs.«01_k».proof.Proof.Gen.Pre_atoms_in_range
public import Idealize.ShloMosaic.Lib.ReduceAll
public import Idealize.ShloMosaic.Lib.ValueIdxCore
public import Idealize.ShloMosaic.Lib.Pipeline.Value

@[expose] public section

noncomputable section

namespace Cert.Proof

open Idealize.ShloMosaic Idealize.ShloMosaic.ValueIdx

/-- The conjunction of two truth bits is the bit of the conjunction. -/
theorem bits_and (p q : Bool) : IntOp.andi (BitVec.ofBool p) (BitVec.ofBool q) = BitVec.ofBool (p && q) := by
  cases p <;> cases q <;> rfl

/-- A truth bit is one exactly when it is true. -/
theorem bit_one (p : Bool) : BitVec.ofBool p = 1#1 ↔ p = true := by cases p <;> decide

/-- A word that is at least 0 and below 2048, compared as signed numbers, is below 2048 as a natural number. -/
theorem word_in_range (v : BitVec 32) (e : IntOp.andi (IntOp.cmpi .sge v 0#32) (IntOp.cmpi .slt v 2048#32) = 1#1) :
    v.toNat < 2048 := by
  simp only [IntOp.cmpi, bits_and, bit_one, Bool.and_eq_true, BitVec.sle_eq_decide, BitVec.slt_eq_decide, decide_eq_true_eq,
    BitVec.toInt_eq_toNat_cond, BitVec.toNat_ofNat, Nat.reducePow, Nat.reduceMod] at e
  omega

/-- Such a word is not negative. -/
theorem word_not_neg (v : BitVec 32) (h : v.toNat < 2048) : IntOp.cmpi .slt v 0#32 = 0#1 := by
  have : ¬ v.toInt < (0#32 : BitVec 32).toInt := by
    simp only [BitVec.toInt_eq_toNat_cond, BitVec.toNat_ofNat, Nat.reducePow, Nat.reduceMod]; omega
  simp only [IntOp.cmpi, BitVec.slt_eq_decide, this, decide_false]; rfl

/-- Such a word passes the gather's two bounds. -/
theorem word_between (v : BitVec 32) (h : v.toNat < 2048) :
    IntOp.andi (IntOp.cmpi .sge v 0#32) (IntOp.cmpi .sle v 2047#32) = 1#1 := by
  simp only [IntOp.cmpi, bits_and, bit_one, Bool.and_eq_true, BitVec.sle_eq_decide, decide_eq_true_eq,
    BitVec.toInt_eq_toNat_cond, BitVec.toNat_ofNat, Nat.reducePow, Nat.reduceMod]
  omega

/-- Read as a signed number, such a word is its natural number. -/
theorem word_toInt (v : BitVec 32) (h : v.toNat < 2048) : v.toInt.toNat = v.toNat := by
  rw [BitVec.toInt_eq_toNat_cond]
  simp only [Nat.reducePow]
  omega

/-- The predicate `atoms_in_range` being true of an index array, every index is below 2048. -/
theorem atoms_below {F : FTy → Type} [FloatOps F] (x : FVec F Cert.Pre_atoms_in_range.S32x2048 .f32)
    (a : IVec Cert.Pre_atoms_in_range.S16x2048x8x3 32)
    (h : Cert.Pre_atoms_in_range.fn (F := F) x a = fun _ => 1#1) (j : Cert.Pre_atoms_in_range.S16x2048x8x3.Idx) :
    (a j).toNat < 2048 := by
  haveI : Subsingleton Cert.Pre_atoms_in_range.S_.Idx := ⟨fun p q => funext fun k => k.elim0⟩
  exact word_in_range (a j) (Host.reduce_andi_all _ _ _ _ (fun k => k.elim0) (congrFun h fun k => k.elim0) j)

end Cert.Proof

end
-- ==== Proof.RefValue.lean ====
/-
  The reference's result at an index: the sum, over the eight substitutions, of the product of the three valuations that the
  substitution's atoms name.
-/
module

public import proofs.«01_k».proof.Proof.Gen.ReferenceIdeal.Run
public import proofs.«01_k».proof.Proof.Range
public import Idealize.ShloMosaic.Lib.IdealHost
public import Idealize.ShloMosaic.Lib.ValueIdxRank6
public import Idealize.ShloMosaic.Lib.ValueLayout
public import Idealize.ShloMosaic.Lib.Pointwise.Reduce
public import Idealize.ShloMosaic.PureOps.Ideal.Laws

@[expose] public section

noncomputable section

namespace Cert.Proof.Reference

open Cert.ReferenceIdeal Cert.ReferenceIdeal.Gen
open Idealize.ShloMosaic hiding ix0 ix1 ix2 ix3 ix4 ix5 ix6
open Idealize.ShloMosaic.ValueIdx

variable {F : FTy → Type} [FloatOps F]

/-- The atom a word names: the word's number, wrapped at the table's 2048 columns (a word in range is not wrapped). -/
def atom (v : BitVec 32) : Fin 2048 := ⟨v.toNat % 2048, Nat.mod_lt _ (by decide)⟩

/-- The gather's start indices: the atom indices with the negative ones moved up by 2048, on one more axis. -/
def starts (a : IVec S16x2048x8x3 32) : IVec S16x2048x8x3x1 32 :=
  broadcastInDim S16x2048x8x3x1 ![0, 1, 2, 3] bcast_S16x2048x8x3_S16x2048x8x3x1_0_1_2_3
    (select (cmpi .slt a (broadcastInDim S16x2048x8x3 ![] bcast_S_S16x2048x8x3 (constantI S_ 32 0#32)))
      (addi a (broadcastInDim S16x2048x8x3 ![] bcast_S_S16x2048x8x3 (constantI S_ 32 2048#32))) a)

/-- The gathered valuations, with the fill value where a start index is out of bounds. -/
def gathered (x : FVec F S32x2048 .f32) (a : IVec S16x2048x8x3 32) : FVec F S32x16x2048x8x3 .f32 :=
  select (broadcastInDim S32x16x2048x8x3 ![1, 2, 3, 4] bcast_S16x2048x8x3_S32x16x2048x8x3_1_2_3_4
      (Host.reduce IntOp.andi
        (andi (cmpi .sge (starts a) (broadcastInDim S16x2048x8x3x1 ![] bcast_S_S16x2048x8x3x1 (constantI S_ 32 0#32)))
          (cmpi .sle (starts a) (broadcastInDim S16x2048x8x3x1 ![0, 1, 2, 3, 4] bcast_S1x1x1x1x1_S16x2048x8x3x1_0_1_2_3_4
            (broadcastInDim S1x1x1x1x1 ![4] bcast_S1_S1x1x1x1x1_4 (constantI S1 32 2047#32)))))
        (constantI S_ 1 1#1) reducesTo_S16x2048x8x3x1_S16x2048x8x3_d4 h_S_))
    (Host.gather gather_S32x2048_S16x2048x8x3x1_S32x16x2048x8x3_0_1_n_n_1_4_321 x (starts a))
    (broadcastInDim S32x16x2048x8x3 ![] bcast_S_S32x16x2048x8x3 (constant S_ .f32 0x7FC00000#32))

/-- The start index at an index is the atom index there, when all of them are in range. -/
theorem starts_apply (a : IVec S16x2048x8x3 32) (h : ∀ j, (a j).toNat < 2048) (c : Fin 16) (g : Fin 2048) (s : Fin 8)
    (l : Fin 3) (z : Fin 1) : starts a (ix5 c g s l z) = a (ix4 c g s l) := by
  unfold starts
  rw [broadcastInDim_apply _ _ _ (ix5 c g s l z) (ix4 c g s l) (fun b => by
    match b with
    | ⟨0, _⟩ => rfl
    | ⟨1, _⟩ => rfl
    | ⟨2, _⟩ => rfl
    | ⟨3, _⟩ => rfl)]
  show Scalar.select (IntOp.cmpi .slt (a _) 0#32) _ (a _) = _
  rw [word_not_neg _ (h _), select_zero]

/-- Every start index passes the bounds, so the mask is one everywhere. -/
theorem mask_one (a : IVec S16x2048x8x3 32) (h : ∀ j, (a j).toNat < 2048) (k : S16x2048x8x3.Idx) :
    Host.reduce IntOp.andi
        (andi (cmpi .sge (starts a) (broadcastInDim S16x2048x8x3x1 ![] bcast_S_S16x2048x8x3x1 (constantI S_ 32 0#32)))
          (cmpi .sle (starts a) (broadcastInDim S16x2048x8x3x1 ![0, 1, 2, 3, 4] bcast_S1x1x1x1x1_S16x2048x8x3x1_0_1_2_3_4
            (broadcastInDim S1x1x1x1x1 ![4] bcast_S1_S1x1x1x1x1_4 (constantI S1 32 2047#32)))))
        (constantI S_ 1 1#1) reducesTo_S16x2048x8x3x1_S16x2048x8x3_d4 h_S_ k = 1#1 := by
  refine Host.reduce_andi_one _ _ _ _ _ rfl fun i => ?_
  show IntOp.andi (IntOp.cmpi .sge (starts a i) 0#32) (IntOp.cmpi .sle (starts a i) 2047#32) = 1#1
  obtain ⟨c, g, s, l, z, rfl⟩ : ∃ (c : Fin 16) (g : Fin 2048) (s : Fin 8) (l : Fin 3) (z : Fin 1), i = ix5 c g s l z :=
    ⟨i 0, i 1, i 2, i 3, i 4, ValueIdx.eq_ix5 i⟩
  rw [starts_apply a h]
  exact word_between _ (h _)

/-- The gather at `(b, c, g, s, l)` reads row `b` of the table, in the column its start index names. -/
theorem gather_read (x : FVec F S32x2048 .f32) (J : IVec S16x2048x8x3x1 32) (b : Fin 32) (c : Fin 16) (g : Fin 2048) (s : Fin 8)
    (l : Fin 3) (v : BitVec 32) (hv : J (ix5 c g s l 0) = v) (h : v.toNat < 2048) :
    Host.gather gather_S32x2048_S16x2048x8x3x1_S32x16x2048x8x3_0_1_n_n_1_4_321 x J (ix5 b c g s l) = x (ix2 b (atom v)) := by
  unfold Host.gather
  refine congrArg x (funext fun p => Fin.ext ?_)
  show GatherDims.start gather_S32x2048_S16x2048x8x3x1_S32x16x2048x8x3_0_1_n_n_1_4_321 (ix5 b c g s l) J p
    + GatherDims.batchCoord gather_S32x2048_S16x2048x8x3x1_S32x16x2048x8x3_0_1_n_n_1_4_321 (ix5 b c g s l) p
    + GatherDims.offCoord gather_S32x2048_S16x2048x8x3x1_S32x16x2048x8x3_0_1_n_n_1_4_321 (ix5 b c g s l) p = _
  rw [GatherDims.batchCoord_eq_zero _ _ _ (List.not_mem_nil), Nat.add_zero]
  match p with
  | ⟨0, hp⟩ =>
    -- the row: no start index, the result's first coordinate
    have e : GatherDims.start gather_S32x2048_S16x2048x8x3x1_S32x16x2048x8x3_0_1_n_n_1_4_321 (ix5 b c g s l) J ⟨0, hp⟩ = 0 := by
      unfold GatherDims.start
      exact dif_neg (show (⟨0, hp⟩ : Fin 2) ∉ [1] by simp)
    rw [e, Nat.zero_add]
    unfold GatherDims.offCoord
    rw [dif_pos ((GatherDims.mem_sKept _ _).mpr ⟨show (⟨0, hp⟩ : Fin 2) ∉ [1] by simp, List.not_mem_nil⟩)]
    rfl
  | ⟨1, hp⟩ =>
    -- the column: the clamped start index
    rw [GatherDims.offCoord_eq_zero _ _ _ (fun q => ((GatherDims.mem_sKept _ _).mp q).1 (List.mem_singleton.mpr rfl)), Nat.add_zero]
    unfold GatherDims.start
    rw [dif_pos (show (⟨1, hp⟩ : Fin S32x2048.rank)
      ∈ gather_S32x2048_S16x2048x8x3x1_S32x16x2048x8x3_0_1_n_n_1_4_321.startIndexMap from List.mem_singleton.mpr rfl)]
    have e : GatherDims.siIdx gather_S32x2048_S16x2048x8x3x1_S32x16x2048x8x3_0_1_n_n_1_4_321 (ix5 b c g s l)
        ⟨List.idxOf (⟨1, hp⟩ : Fin 2) [1], List.idxOf_lt_length_iff.2 (List.mem_singleton.mpr rfl)⟩ = ix5 c g s l 0 := by
      funext q
      refine Fin.ext ?_
      match q with
      | ⟨0, _⟩ => rfl
      | ⟨1, _⟩ => rfl
      | ⟨2, _⟩ => rfl
      | ⟨3, _⟩ => rfl
      | ⟨4, _⟩ => rfl
    have e' : J (GatherDims.siIdx gather_S32x2048_S16x2048x8x3x1_S32x16x2048x8x3_0_1_n_n_1_4_321 (ix5 b c g s l)
        ⟨List.idxOf (⟨1, hp⟩ : Fin 2) [1], List.idxOf_lt_length_iff.2 (List.mem_singleton.mpr rfl)⟩) = v := by rw [e, hv]
    refine (congrArg (fun w : BitVec 32 => min w.toInt.toNat (2048 - 1)) e').trans ?_
    show min v.toInt.toNat (2048 - 1) = v.toNat % 2048
    rw [word_toInt v h]
    omega

/-- The gathered valuation of atom `l` of substitution `s`. -/
theorem gathered_apply (x : FVec F S32x2048 .f32) (a : IVec S16x2048x8x3 32) (h : ∀ j, (a j).toNat < 2048)
    (b : Fin 32) (c : Fin 16) (g : Fin 2048) (s : Fin 8) (l : Fin 3) :
    gathered x a (ix5 b c g s l) = x (ix2 b (atom (a (ix4 c g s l)))) := by
  unfold gathered
  rw [select_apply, broadcastInDim_apply _ _ _ (ix5 b c g s l) (ix4 c g s l) (fun p => by
    match p with
    | ⟨0, _⟩ => rfl
    | ⟨1, _⟩ => rfl
    | ⟨2, _⟩ => rfl
    | ⟨3, _⟩ => rfl), mask_one a h, select_one]
  exact gather_read x (starts a) b c g s l _ (starts_apply a h c g s l 0) (h _)

/-- Slice `o` of the gathered array, its last axis dropped, is the valuation of atom `o`. -/
theorem slice_apply (x : FVec F S32x2048 .f32) (a : IVec S16x2048x8x3 32) (h : ∀ j, (a j).toNat < 2048) (o : Fin 3)
    (hs : S32x16x2048x8x3.Slices ![0, 0, 0, 0, o.val] S32x16x2048x8x1) (b : Fin 32) (c : Fin 16) (g : Fin 2048) (s : Fin 8) :
    shapeCast S32x16x2048x8 (extractStridedSlice S32x16x2048x8x1 ![0, 0, 0, 0, o.val] (gathered x a) hs)
        shapeCasts_S32x16x2048x8x1_S32x16x2048x8 (ix4 b c g s)
      = x (ix2 b (atom (a (ix4 c g s o)))) := by
  rw [shapeCast_apply _ _ (ix4 b c g s) (ix5 b c g s 0) (by
    rw [Shape.rowMajor_val_five, Shape.rowMajor_val_four]
    show ((((b.val * 16 + c.val) * 2048 + g.val) * 8 + s.val) * 1 + 0) = ((b.val * 16 + c.val) * 2048 + g.val) * 8 + s.val
    omega),
    extractStridedSlice_apply _ _ _ (ix5 b c g s 0) (ix5 b c g s o) (fun p => by
      match p with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => rfl),
    gathered_apply x a h]

/-- The products of the three valuations, over all the rules, groundings and substitutions. -/
def prods (x : FVec F S32x2048 .f32) (a : IVec S16x2048x8x3 32) : FVec F S32x16x2048x8 .f32 :=
  mulf (mulf
      (shapeCast S32x16x2048x8 (extractStridedSlice S32x16x2048x8x1 ![0, 0, 0, 0, 0] (gathered x a)
        slices_S32x16x2048x8x3_S32x16x2048x8x1_0_0_0_0_0) shapeCasts_S32x16x2048x8x1_S32x16x2048x8)
      (shapeCast S32x16x2048x8 (extractStridedSlice S32x16x2048x8x1 ![0, 0, 0, 0, 1] (gathered x a)
        slices_S32x16x2048x8x3_S32x16x2048x8x1_0_0_0_0_1) shapeCasts_S32x16x2048x8x1_S32x16x2048x8))
    (shapeCast S32x16x2048x8 (extractStridedSlice S32x16x2048x8x1 ![0, 0, 0, 0, 2] (gathered x a)
      slices_S32x16x2048x8x3_S32x16x2048x8x1_0_0_0_0_2) shapeCasts_S32x16x2048x8x1_S32x16x2048x8)

/-- The product for substitution `s` of rule `c` and ground atom `g`, in batch row `b`. -/
def term (x : FVec F S32x2048 .f32) (a : IVec S16x2048x8x3 32) (b : Fin 32) (c : Fin 16) (g : Fin 2048) (s : Fin 8) : F .f32 :=
  FloatOps.mulf (FloatOps.mulf (x (ix2 b (atom (a (ix4 c g s 0))))) (x (ix2 b (atom (a (ix4 c g s 1))))))
    (x (ix2 b (atom (a (ix4 c g s 2)))))

/-- The array of products holds that product. -/
theorem prods_apply (x : FVec F S32x2048 .f32) (a : IVec S16x2048x8x3 32) (h : ∀ j, (a j).toNat < 2048)
    (b : Fin 32) (c : Fin 16) (g : Fin 2048) (s : Fin 8) : prods x a (ix4 b c g s) = term x a b c g s := by
  have e0 := slice_apply x a h 0 slices_S32x16x2048x8x3_S32x16x2048x8x1_0_0_0_0_0 b c g s
  have e1 := slice_apply x a h 1 slices_S32x16x2048x8x3_S32x16x2048x8x1_0_0_0_0_1 b c g s
  have e2 := slice_apply x a h 2 slices_S32x16x2048x8x3_S32x16x2048x8x1_0_0_0_0_2 b c g s
  unfold term
  rw [← e0, ← e1, ← e2]
  rfl

/-- The reference's result as a function of its two arguments. -/
def refVal (x : FVec F S32x2048 .f32) (a : IVec S16x2048x8x3 32) : FVec F S16x32x2048 .f32 :=
  transpose S16x32x2048 [1, 0, 2] (Host.reduceAdd (prods x a) (constant S_ .f32 0x00000000#32)
    reducesTo_S32x16x2048x8_S32x16x2048_d3 h_S_) transposes_S32x16x2048_S16x32x2048_1_0_2

open Cert.ReferenceIdeal.Value in
/-- It is the term the reference's run ends with. -/
theorem refVal_eq (m : (ℓ : Loc nD τ sig) → Buf (Elt F) ℓ) (d : Dev nD) :
    res_out0 (F := F) m d = refVal (F := F) (m ((Idealize.ShloMosaic.SparseCore.T d).loc main_arg0)) (m ((Idealize.ShloMosaic.SparseCore.T d).loc main_arg1)) := by
  unfold res_out0 res_main_v10 refVal prods gathered starts
  rfl

/-- At the extended reals the result at rule `c`, batch row `b` and ground atom `g` is the sum of the eight products. -/
theorem refVal_apply (x : FVec Ideal S32x2048 .f32) (a : IVec S16x2048x8x3 32) (h : ∀ j, (a j).toNat < 2048)
    (c : Fin 16) (b : Fin 32) (g : Fin 2048) :
    refVal (F := Ideal) x a (ix3 c b g) = (∑ s : Fin 8, (term (F := Ideal) x a b c g s : EReal) : EReal) := by
  unfold refVal
  rw [transpose_apply _ _ _ (ix3 c b g) (ix3 b c g) (fun p => by
    match p with
    | ⟨0, _⟩ => rfl
    | ⟨1, _⟩ => rfl
    | ⟨2, _⟩ => rfl), Host.reduceAdd_apply]
  refine (Ideal.hostReduceAdd_r4_a3 reducesTo_S32x16x2048x8_S32x16x2048_d3 (prods (F := Ideal) x a) _ (ix3 b c g)).trans ?_
  have e0 : (constant (F := Ideal) S_ .f32 0x00000000#32) (Shape.Idx.first h_S_) = (0 : EReal) := Ideal.ofBits_zero_f32
  rw [e0, zero_add]
  refine Finset.sum_congr rfl fun s _ => ?_
  exact prods_apply (F := Ideal) x a h b c g s

end Cert.Proof.Reference

end
-- ==== Proof.Equation.lean ====
/-
  The kernel's result is the reference's, at the extended reals: both are, at rule `c`, batch row `b` and ground atom `g`,
  the sum of the eight products of three valuations.
-/
module

public import proofs.«01_k».proof.Proof.KernelVal
public import proofs.«01_k».proof.Proof.RefValue

@[expose] public section

noncomputable section

namespace Cert.Proof

open Idealize.ShloMosaic hiding ix2 ix3 ix4
open Idealize.ShloMosaic.ValueIdx
open Cert.Proof.KernelIdeal Cert.Proof.Reference

variable {F : FTy → Type} [FloatOps F]

/-- A word's product for substitution `s` is the reference's product for it. -/
theorem conj_eq_term (x : (⟨2, ![32, 2048]⟩ : Shape).Idx → F .f32) (a : (⟨4, ![16, 2048, 8, 3]⟩ : Shape).Idx → BitVec 32)
    (h : ∀ j, (a j).toNat < 2048) (c : Fin 16) (b : Fin 32) (w : Fin 32) (q : Fin 64) (g : Fin 2048) (n : ℕ)
    (hg : g.val = 64 * w.val + q.val) (hn : n = 2048 * c.val + 64 * b.val + q.val) (s : Fin 8) :
    conj (tableOf x) (fun k : (⟨1, ![24575 + 1]⟩ : Shape).Idx => idxRows a (ix2 w (k 0))) n s.val = term x a b c g s := by
  have e : ∀ (l : Fin 3) (r : ℕ), r = 3 * s.val + l.val →
      lit (tableOf x) (fun k : (⟨1, ![24575 + 1]⟩ : Shape).Idx => idxRows a (ix2 w (k 0))) n r
        = x (ix2 b (atom (a (ix4 c g s l)))) := fun l r hr =>
    lit_apply x a c b w q g n hg hn s l r hr (atom (a (ix4 c g s l))) (Nat.mod_eq_of_lt (h _)).symm
  unfold conj term
  rw [e 0 (3 * s.val) rfl, e 1 (3 * s.val + 1) rfl, e 2 (3 * s.val + 2) rfl]

/-- The two results agree when every atom index is in range. -/
theorem resVal_eq_refVal (x : (⟨2, ![32, 2048]⟩ : Shape).Idx → Ideal .f32)
    (a : (⟨4, ![16, 2048, 8, 3]⟩ : Shape).Idx → BitVec 32) (h : ∀ j, (a j).toNat < 2048) :
    resVal (F := Ideal) x a = refVal (F := Ideal) x a := by
  funext j
  obtain ⟨c, b, g, rfl⟩ : ∃ (c : Fin 16) (b : Fin 32) (g : Fin 2048), j = ix3 c b g := ⟨j 0, j 1, j 2, ValueIdx.eq_ix3 j⟩
  have hw : g.val / 64 < 32 := by omega
  have hq : g.val % 64 < 64 := by omega
  have hn : 2048 * c.val + 64 * b.val + g.val % 64 < 32768 := by omega
  have hg : g.val = 64 * (⟨g.val / 64, hw⟩ : Fin 32).val + (⟨g.val % 64, hq⟩ : Fin 64).val := by
    show g.val = 64 * (g.val / 64) + g.val % 64; omega
  rw [refVal_apply x a h c b g]
  unfold resVal
  rw [resultOf_apply _ c b ⟨g.val / 64, hw⟩ ⟨g.val % 64, hq⟩ g ⟨_, hn⟩ hg rfl]
  have e := conj_eq_term (F := Ideal) x a h c b ⟨g.val / 64, hw⟩ ⟨g.val % 64, hq⟩ g _ hg rfl
  show tileOut (tableOf x) (fun k : (⟨1, ![24575 + 1]⟩ : Shape).Idx => idxRows a (ix2 (⟨g.val / 64, hw⟩ : Fin 32) (k 0)))
    (2048 * c.val + 64 * b.val + g.val % 64) = _
  rw [Fin.sum_univ_eight, ← e 0, ← e 1, ← e 2, ← e 3, ← e 4, ← e 5, ← e 6, ← e 7]
  rfl

end Cert.Proof

end
-- ==== Proof.lean ====
/-
  The certificate: the kernel's two programs and the reference run to the end with their arguments unchanged and every
  semaphore at zero, and at the extended reals the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_atoms_in_range
public import proofs.«01_k».proof.Proof.KernelLaunch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- Every element type has a value, as patterns. -/
instance bits_nonempty (e : EltTy) : Nonempty (Elt Bits e) := by
  cases e <;> first | exact ⟨(0 : BitVec _)⟩ | exact ⟨(0#_ : BitVec _)⟩
/-- Every element type has a value, as extended reals. -/
instance ideal_nonempty (e : EltTy) : Nonempty (Elt Ideal e) := by
  cases e <;> first | exact ⟨(0 : EReal)⟩ | exact ⟨(0 : BitVec _)⟩

/-- The kernel runs, its arguments unchanged, every semaphore back at zero. -/
theorem kernel_frame : Cert.quiescent_Kernel (hKernel := Cert.Kernel.Gen.facts)
    (hPre_atoms_in_range := Cert.Pre_atoms_in_range.Gen.facts) := by
  intro m g hp
  exact (θ_run _ _ _).mono (fun _ r => ⟨fun c => ⟨(r.1 c).1, (r.1 c).2.1⟩, r.2⟩)
    (Cert.Proof.Kernel.run_main (F := Bits) m g fun d j => atoms_below _ _ (hp d) j)

/-- The same of the kernel read at the extended reals. -/
theorem kernelIdeal_frame : Cert.quiescent_KernelIdeal (hKernelIdeal := Cert.KernelIdeal.Gen.facts)
    (hPre_atoms_in_range := Cert.Pre_atoms_in_range.Gen.facts) := by
  intro m g hp
  exact (θ_run _ _ _).mono (fun _ r => ⟨fun c => ⟨(r.1 c).1, (r.1 c).2.1⟩, r.2⟩)
    (Cert.Proof.KernelIdeal.run_main (F := Ideal) m g fun d j => atoms_below _ _ (hp d) j)

/-- The reference runs, its arguments unchanged, and touches no semaphore. -/
theorem reference_frame : Cert.quiescent_ReferenceIdeal (hReferenceIdeal := Cert.ReferenceIdeal.Gen.facts) := by
  intro m g _
  exact (θ_run _ _ _).mono
    (fun r h => ⟨fun c => ⟨(h c).2.1, (h c).2.2⟩, sem_eq_zero_of_no_sems (by decide) r.2⟩)
    (Cert.ReferenceIdeal.Value.run (F := Ideal) m g)

/-- From memories that agree on the arguments, with the atom indices in range, the kernel and the reference end with equal
    results. -/
theorem values_agree : Cert.algebraic_KernelIdeal_ReferenceIdeal (hKernelIdeal := Cert.KernelIdeal.Gen.facts)
    (hReferenceIdeal := Cert.ReferenceIdeal.Gen.facts) (hPre_atoms_in_range := Cert.Pre_atoms_in_range.Gen.facts) := by
  intro m g m' g' hp hargs
  have hI : ∀ (d : Dev Cert.KernelIdeal.nD) j, (m ((SparseCore.T d).loc Cert.KernelIdeal.main_arg1) j : BitVec 32).toNat < 2048 :=
    fun d j => atoms_below _ _ (hp d) j
  refine ⟨fun c => Cert.Proof.KernelIdeal.resVal (F := Ideal) (m ((SparseCore.T c).loc Cert.KernelIdeal.main_arg0))
    (m ((SparseCore.T c).loc Cert.KernelIdeal.main_arg1)), ?_, ?_⟩
  · exact (θ_run _ _ _).mono (fun _ r c => ⟨(r.1 c).2.2, (r.1 c).1, (r.1 c).2.1⟩)
      (Cert.Proof.KernelIdeal.run_main (F := Ideal) m g hI)
  · refine (θ_run _ _ _).mono (fun r h c => ⟨(h c).1.trans ?_, (h c).2.1, (h c).2.2⟩)
      (Cert.ReferenceIdeal.Value.run (F := Ideal) m' g')
    refine (Cert.Proof.Reference.refVal_eq (F := Ideal) m' c).trans ?_
    refine (congrArg₂ (Cert.Proof.Reference.refVal (F := Ideal)) (hargs c).1 (hargs c).2).trans ?_
    exact (resVal_eq_refVal _ _ (hI c)).symm

/-- Everything claimed. -/
theorem claim : Cert.Claim :=
  ⟨Cert.Kernel.Gen.facts, Cert.KernelIdeal.Gen.facts, Cert.ReferenceIdeal.Gen.facts, Cert.Pre_atoms_in_range.Gen.facts,
    kernel_frame, kernelIdeal_frame, reference_frame, fun m g _ => reference_frame m g trivial, trivial, values_agree⟩

end Cert.Proof

end
